-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))
      ∧ r.2.sem = fun _ => 0)

def preserves_Kernel_KernelIdeal : Prop :=
  IdealRules.named_const.Statement Cert.KernelIdeal.κ "log_2" .f32 0x3F317218#32 ((Real.log 2 : ℝ) : EReal)
  ∧ IdealRules.named_const.Statement Cert.KernelIdeal.κ "log2_e" .f32 0x3FB8AA3B#32 (((Real.log 2)⁻¹ : ℝ) : EReal)
  ∧ IdealRules.named_const.Statement Cert.KernelIdeal.κ "half_log2_e" .f32 0x3F38AA3B#32 ((2⁻¹ * (Real.log 2)⁻¹ : ℝ) : EReal)
  ∧ IdealRules.named_const.Statement Cert.KernelIdeal.κ "neg_log2_e" .f32 0xBFB8AA3B#32 ((-((Real.log 2)⁻¹) : ℝ) : EReal)

def algebraic_KernelIdeal_ReferenceIdeal_on_state [hKernelIdeal : Cert.KernelIdeal.Facts] [hReferenceIdeal : Cert.ReferenceIdeal.Facts] [hOn_state : Cert.On_state.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v3_0)) (v1 : (c : Dev Cert.KernelIdeal.nD) → Buf (Elt Ideal) ((c.tc : Thread Cert.KernelIdeal.nD Cert.KernelIdeal.τ).loc Cert.KernelIdeal.main_v3_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          (∀ i : (⟨3, ![3, 1536, 640]⟩ : Shape).Idx, (Cert.On_state.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))).1 i = 1#1 → r.2.mem ((c.tc : Thread Cert.KernelIdeal.nD Cert.KernelIdeal.τ).loc Cert.KernelIdeal.main_v3_0) i = v0 c i)
          ∧ (∀ i : (⟨3, ![3, 16, 1536]⟩ : Shape).Idx, (Cert.On_state.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))).2 i = 1#1 → r.2.mem ((c.tc : Thread Cert.KernelIdeal.nD Cert.KernelIdeal.τ).loc Cert.KernelIdeal.main_v3_1) i = v1 c i)
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          (∀ i : (⟨3, ![3, 1536, 640]⟩ : Shape).Idx, (Cert.On_state.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))).1 i = 1#1 → r.2.mem ((c.tc : Thread Cert.ReferenceIdeal.nD Cert.ReferenceIdeal.τ).loc Cert.ReferenceIdeal.main_v0_0) i = v0 c i)
          ∧ (∀ i : (⟨3, ![3, 16, 1536]⟩ : Shape).Idx, (Cert.On_state.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))).2 i = 1#1 → r.2.mem ((c.tc : Thread Cert.ReferenceIdeal.nD Cert.ReferenceIdeal.τ).loc Cert.ReferenceIdeal.main_v0_1) i = v1 c i)
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def Claim : Prop :=
  ∃ (hKernel : Cert.Kernel.Facts) (hKernelIdeal : Cert.KernelIdeal.Facts) (hReferenceIdeal : Cert.ReferenceIdeal.Facts) (hOn_state : Cert.On_state.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal_on_state (hKernelIdeal := hKernelIdeal) (hReferenceIdeal := hReferenceIdeal) (hOn_state := hOn_state)
-- ==== On_state.lean ====
abbrev S3x1536x640 : Shape := ⟨3, ![3, 1536, 640]⟩
abbrev S3x640 : Shape := ⟨2, ![3, 640]⟩
abbrev S3x16x640 : Shape := ⟨3, ![3, 16, 640]⟩
abbrev S1536x16 : Shape := ⟨2, ![1536, 16]⟩
abbrev S1536 : Shape := ⟨1, ![1536]⟩
abbrev S_ : Shape := ⟨0, ![]⟩
abbrev S3x16x1536 : Shape := ⟨3, ![3, 16, 1536]⟩

class Facts : Prop where
  bcast_S_S3x1536x640 : S_.BroadcastsInDim S3x1536x640 (![] : Fin 0 → Fin S3x1536x640.rank)
  bcast_S_S3x16x1536 : S_.BroadcastsInDim S3x16x1536 (![] : Fin 0 → Fin S3x16x1536.rank)

variable [Facts]

def fn {F : FTy → Type} [FloatOps F] (main_arg0 : FVec F S3x1536x640 .fp8e4m3) (main_arg1 : FVec F S3x640 .f32) (main_arg2 : FVec F S3x1536x640 .fp8e4m3) (main_arg3 : FVec F S3x640 .f32) (main_arg4 : FVec F S3x16x640 .fp8e4m3) (main_arg5 : FVec F S3x640 .f32) (main_arg6 : FVec F S3x16x640 .fp8e4m3) (main_arg7 : FVec F S3x640 .f32) (main_arg8 : FVec F S3x1536x640 .bf16) (main_arg9 : FVec F S1536x16 .f32) (main_arg10 : FVec F S1536 .f32) (main_arg11 : FVec F S1536 .f32) : IVec S3x1536x640 1 × IVec S3x16x1536 1 :=
  let main_c : IVec S_ 1 := constantI S_ 1 0#1
  let main_v0 : IVec S3x1536x640 1 := broadcastInDim S3x1536x640 ![] bcast_S_S3x1536x640 main_c
  let main_c_0 : IVec S_ 1 := constantI S_ 1 1#1
  let main_v1 : IVec S3x16x1536 1 := broadcastInDim S3x16x1536 ![] bcast_S_S3x16x1536 main_c_0
  (main_v0, main_v1)
-- ==== Kernel.lean ====
abbrev S3x1536x640 : Shape := ⟨3, ![3, 1536, 640]⟩
abbrev S3x640 : Shape := ⟨2, ![3, 640]⟩
abbrev S3x16x640 : Shape := ⟨3, ![3, 16, 640]⟩
abbrev S1536x16 : Shape := ⟨2, ![1536, 16]⟩
abbrev S1536 : Shape := ⟨1, ![1536]⟩
abbrev S16x1536 : Shape := ⟨2, ![16, 1536]⟩
abbrev S12x128 : Shape := ⟨2, ![12, 128]⟩
abbrev S3x16x1536 : Shape := ⟨3, ![3, 16, 1536]⟩
abbrev S1x1536x128 : Shape := ⟨3, ![1, 1536, 128]⟩
abbrev S3x128 : Shape := ⟨2, ![3, 128]⟩
abbrev S1x16x128 : Shape := ⟨3, ![1, 16, 128]⟩
abbrev S1x16x1536 : Shape := ⟨3, ![1, 16, 1536]⟩
abbrev S12x128x128 : Shape := ⟨3, ![12, 128, 128]⟩
abbrev S12x1152x128 : Shape := ⟨3, ![12, 1152, 128]⟩
abbrev S24x8x128 : Shape := ⟨3, ![24, 8, 128]⟩
abbrev S2x128x16x128 : Shape := ⟨4, ![2, 128, 16, 128]⟩
abbrev S8x128 : Shape := ⟨2, ![8, 128]⟩
abbrev S1x8x128 : Shape := ⟨3, ![1, 8, 128]⟩
abbrev S128x128 : Shape := ⟨2, ![128, 128]⟩
abbrev S16x128 : Shape := ⟨2, ![16, 128]⟩
abbrev S1x128 : Shape := ⟨2, ![1, 128]⟩
abbrev S16x1 : Shape := ⟨2, ![16, 1]⟩
abbrev S1x1x16x128 : Shape := ⟨4, ![1, 1, 16, 128]⟩
abbrev S1x256x128 : Shape := ⟨3, ![1, 256, 128]⟩
abbrev S256x128 : Shape := ⟨2, ![256, 128]⟩
abbrev S128x256 : Shape := ⟨2, ![128, 256]⟩
abbrev S1x128x128 : Shape := ⟨3, ![1, 128, 128]⟩
abbrev S1x1x8x128 : Shape := ⟨4, ![1, 1, 8, 128]⟩

abbrev nBuf : Space → Nat
  | .hbm => 17
  | .vmem => 32
  | .smem => 0
  | _ => 0

abbrev bufTy : (tb : Table) → Fin (tcTables nBuf tb) → BufTy
  | .hbm, ⟨0, _⟩ => ⟨S3x1536x640, .fp8e4m3⟩
  | .hbm, ⟨1, _⟩ => ⟨S3x640, .f32⟩
  | .hbm, ⟨2, _⟩ => ⟨S3x1536x640, .fp8e4m3⟩
  | .hbm, ⟨3, _⟩ => ⟨S3x640, .f32⟩
  | .hbm, ⟨4, _⟩ => ⟨S3x16x640, .fp8e4m3⟩
  | .hbm, ⟨5, _⟩ => ⟨S3x640, .f32⟩
  | .hbm, ⟨6, _⟩ => ⟨S3x16x640, .fp8e4m3⟩
  | .hbm, ⟨7, _⟩ => ⟨S3x640, .f32⟩
  | .hbm, ⟨8, _⟩ => ⟨S3x1536x640, .bf16⟩
  | .hbm, ⟨9, _⟩ => ⟨S1536x16, .f32⟩
  | .hbm, ⟨10, _⟩ => ⟨S1536, .f32⟩
  | .hbm, ⟨11, _⟩ => ⟨S1536, .f32⟩
  | .hbm, ⟨12, _⟩ => ⟨S16x1536, .f32⟩
  | .hbm, ⟨13, _⟩ => ⟨S12x128, .f32⟩
  | .hbm, ⟨14, _⟩ => ⟨S12x128, .f32⟩
  | .hbm, ⟨15, _⟩ => ⟨S3x1536x640, .bf16⟩
  | .hbm, ⟨16, _⟩ => ⟨S3x16x1536, .f32⟩
  | .local _ .vmem, ⟨0, _⟩ => ⟨S1x1536x128, .fp8e4m3⟩
  | .local _ .vmem, ⟨1, _⟩ => ⟨S1x1536x128, .fp8e4m3⟩
  | .local _ .vmem, ⟨2, _⟩ => ⟨S3x128, .f32⟩
  | .local _ .vmem, ⟨3, _⟩ => ⟨S3x128, .f32⟩
  | .local _ .vmem, ⟨4, _⟩ => ⟨S1x1536x128, .fp8e4m3⟩
  | .local _ .vmem, ⟨5, _⟩ => ⟨S1x1536x128, .fp8e4m3⟩
  | .local _ .vmem, ⟨6, _⟩ => ⟨S3x128, .f32⟩
  | .local _ .vmem, ⟨7, _⟩ => ⟨S3x128, .f32⟩
  | .local _ .vmem, ⟨8, _⟩ => ⟨S1x16x128, .fp8e4m3⟩
  | .local _ .vmem, ⟨9, _⟩ => ⟨S1x16x128, .fp8e4m3⟩
  | .local _ .vmem, ⟨10, _⟩ => ⟨S3x128, .f32⟩
  | .local _ .vmem, ⟨11, _⟩ => ⟨S3x128, .f32⟩
  | .local _ .vmem, ⟨12, _⟩ => ⟨S1x16x128, .fp8e4m3⟩
  | .local _ .vmem, ⟨13, _⟩ => ⟨S1x16x128, .fp8e4m3⟩
  | .local _ .vmem, ⟨14, _⟩ => ⟨S3x128, .f32⟩
  | .local _ .vmem, ⟨15, _⟩ => ⟨S3x128, .f32⟩
  | .local _ .vmem, ⟨16, _⟩ => ⟨S1x1536x128, .bf16⟩
  | .local _ .vmem, ⟨17, _⟩ => ⟨S1x1536x128, .bf16⟩
  | .local _ .vmem, ⟨18, _⟩ => ⟨S16x1536, .f32⟩
  | .local _ .vmem, ⟨19, _⟩ => ⟨S12x128, .f32⟩
  | .local _ .vmem, ⟨20, _⟩ => ⟨S12x128, .f32⟩
  | .local _ .vmem, ⟨21, _⟩ => ⟨S1x1536x128, .bf16⟩
  | .local _ .vmem, ⟨22, _⟩ => ⟨S1x1536x128, .bf16⟩
  | .local _ .vmem, ⟨23, _⟩ => ⟨S1x16x1536, .f32⟩
  | .local _ .vmem, ⟨24, _⟩ => ⟨S1x16x1536, .f32⟩
  | .local _ .vmem, ⟨25, _⟩ => ⟨S12x128x128, .f32⟩
  | .local _ .vmem, ⟨26, _⟩ => ⟨S12x128x128, .f32⟩
  | .local _ .vmem, ⟨27, _⟩ => ⟨S12x128x128, .f32⟩
  | .local _ .vmem, ⟨28, _⟩ => ⟨S12x1152x128, .f32⟩
  | .local _ .vmem, ⟨29, _⟩ => ⟨S24x8x128, .f32⟩
  | .local _ .vmem, ⟨30, _⟩ => ⟨S24x8x128, .f32⟩
  | .local _ .vmem, ⟨31, _⟩ => ⟨S2x128x16x128, .f32⟩
  | _, _ => ⟨S3x1536x640, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | _, _ => false

abbrev semScoped : Fin 0 → Bool
  | ⟨_, h⟩ => absurd h (Nat.not_lt_zero _)

abbrev dmaSemScoped : Fin 25 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | _ => false

abbrev sig : RefSig :=
  ofTc nBuf bufTy 0 25 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3_0 : Ref sig .tc := ⟨.hbm, 15, rfl⟩
abbrev main_v3_1 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg10_0 : Ref sig .tc := ⟨.vmem, 19, rfl⟩
abbrev cc0_stg11_0 : Ref sig .tc := ⟨.vmem, 20, rfl⟩
abbrev cc0_stg12_0 : Ref sig .tc := ⟨.vmem, 21, rfl⟩
abbrev cc0_stg12_1 : Ref sig .tc := ⟨.vmem, 22, rfl⟩
abbrev cc0_stg13_0 : Ref sig .tc := ⟨.vmem, 23, rfl⟩
abbrev cc0_stg13_1 : Ref sig .tc := ⟨.vmem, 24, rfl⟩
abbrev cc0_scratch0 : Ref sig .tc := ⟨.vmem, 25, rfl⟩
abbrev cc0_scratch1 : Ref sig .tc := ⟨.vmem, 26, rfl⟩
abbrev cc0_scratch2 : Ref sig .tc := ⟨.vmem, 27, rfl⟩
abbrev cc0_scratch3 : Ref sig .tc := ⟨.vmem, 28, rfl⟩
abbrev cc0_scratch4 : Ref sig .tc := ⟨.vmem, 29, rfl⟩
abbrev cc0_scratch5 : Ref sig .tc := ⟨.vmem, 30, rfl⟩
abbrev cc0_scratch6 : Ref sig .tc := ⟨.vmem, 31, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem10_0 : DmaSem sig := 19
abbrev cc0_sem11_0 : DmaSem sig := 20
abbrev cc0_sem12_0 : DmaSem sig := 21
abbrev cc0_sem12_1 : DmaSem sig := 22
abbrev cc0_sem13_0 : DmaSem sig := 23
abbrev cc0_sem13_1 : DmaSem sig := 24

abbrev nD : Nat := 1
abbrev τ : Topo := Topo.v7x

variable {F : FTy → Type} [FloatOps F]

abbrev grid0 : Pipeline.Grid := ⟨2, ![3, 5], ![false, false]⟩

def k0_off1 (i : grid0.Coords) : Fin 2 → Nat :=
  let arg0 : BitVec 32 := BitVec.ofNat 32 (i 0).val
  let v18 : Index := Scalar.indexCast arg0
  let c0_7 : Index := 0#32
  ![v18.toNat, 0]
@[reducible] def k0_t1_loop : Scf.Loop 32 :=
  let c0_i32_1172 : BitVec 32 := 0#32
  let c3_i32 : BitVec 32 := 3#32
  let v2059 : BitVec 32 := Scalar.addi c0_i32_1172 c3_i32
  let c1_i32 : BitVec 32 := 1#32
  ⟨c0_i32_1172, v2059, c1_i32⟩
@[reducible] def k0_t2_loop : Scf.Loop 32 :=
  let c0_i32_1602 : BitVec 32 := 0#32
  let c8_i32 : BitVec 32 := 8#32
  let v2610 : BitVec 32 := Scalar.addi c0_i32_1602 c8_i32
  let c1_i32_1603 : BitVec 32 := 1#32
  ⟨c0_i32_1602, v2610, c1_i32_1603⟩
def k0_off2 (k0_t1 : Fin k0_t1_loop.trips) (c0_i32_1605 : BitVec 32) : Fin 3 → Nat :=
  let c0_i32_1172 : BitVec 32 := 0#32
  let c1_i32 : BitVec 32 := 1#32
  let arg23 : BitVec 32 := Scf.iv c0_i32_1172 c1_i32 k0_t1
  let c4_i32_1601 : BitVec 32 := 4#32
  let v2609 : BitVec 32 := Scalar.muli arg23 c4_i32_1601
  let c2_i32 : BitVec 32 := 2#32
  let v2611 : BitVec 32 := Scalar.muli v2609 c2_i32
  let v2612 : BitVec 32 := Scalar.addi v2611 c0_i32_1605
  let v2613 : Index := Scalar.indexCast v2612
  let c0_1606 : Index := 0#32
  let c0_1607 : Index := 0#32
  ![v2613.toNat, 0, 0]
def k0_off3 (k0_t2 : Fin k0_t2_loop.trips) (c0_i32_1633 : BitVec 32) : Fin 4 → Nat :=
  let c0_1634 : Index := 0#32
  let c0_i32_1602 : BitVec 32 := 0#32
  let c1_i32_1603 : BitVec 32 := 1#32
  let arg24 : BitVec 32 := Scf.iv c0_i32_1602 c1_i32_1603 k0_t2
  let c16_i32 : BitVec 32 := 16#32
  let v2651 : BitVec 32 := Scalar.muli arg24 c16_i32
  let v2652 : BitVec 32 := Scalar.addi v2651 c0_i32_1633
  let v2653 : Index := Scalar.indexCast v2652
  let c0_1635 : Index := 0#32
  let c0_1636 : Index := 0#32
  ![0, v2653.toNat, 0, 0]
def k0_off4 (k0_t2 : Fin k0_t2_loop.trips) (c0_i32_1633 : BitVec 32) : Fin 4 → Nat :=
  let c0_1637 : Index := 0#32
  let c0_i32_1602 : BitVec 32 := 0#32
  let c1_i32_1603 : BitVec 32 := 1#32
  let arg24 : BitVec 32 := Scf.iv c0_i32_1602 c1_i32_1603 k0_t2
  let c16_i32 : BitVec 32 := 16#32
  let v2651 : BitVec 32 := Scalar.muli arg24 c16_i32
  let v2652 : BitVec 32 := Scalar.addi v2651 c0_i32_1633
  let v2656 : Index := Scalar.indexCast v2652
  let c8_1638 : Index := 8#32
  let c0_1639 : Index := 0#32
  ![0, v2656.toNat, 8, 0]
def k0_off5 (k0_t2 : Fin k0_t2_loop.trips) (c0_i32_1633 : BitVec 32) : Fin 4 → Nat :=
  let c1_1640 : Index := 1#32
  let c0_i32_1602 : BitVec 32 := 0#32
  let c1_i32_1603 : BitVec 32 := 1#32
  let arg24 : BitVec 32 := Scf.iv c0_i32_1602 c1_i32_1603 k0_t2
  let c16_i32 : BitVec 32 := 16#32
  let v2651 : BitVec 32 := Scalar.muli arg24 c16_i32
  let v2652 : BitVec 32 := Scalar.addi v2651 c0_i32_1633
  let v2659 : Index := Scalar.indexCast v2652
  let c0_1641 : Index := 0#32
  let c0_1642 : Index := 0#32
  ![1, v2659.toNat, 0, 0]
def k0_off6 (k0_t2 : Fin k0_t2_loop.trips) (c0_i32_1633 : BitVec 32) : Fin 4 → Nat :=
  let c1_1643 : Index := 1#32
  let c0_i32_1602 : BitVec 32 := 0#32
  let c1_i32_1603 : BitVec 32 := 1#32
  let arg24 : BitVec 32 := Scf.iv c0_i32_1602 c1_i32_1603 k0_t2
  let c16_i32 : BitVec 32 := 16#32
  let v2651 : BitVec 32 := Scalar.muli arg24 c16_i32
  let v2652 : BitVec 32 := Scalar.addi v2651 c0_i32_1633
  let v2662 : Index := Scalar.indexCast v2652
  let c8_1644 : Index := 8#32
  let c0_1645 : Index := 0#32
  ![1, v2662.toNat, 8, 0]
def k0_off7 (k0_t1 : Fin k0_t1_loop.trips) (k0_t2 : Fin k0_t2_loop.trips) (c0_i32_1646 : BitVec 32) (c0_i32_1633 : BitVec 32) : Fin 3 → Nat :=
  let c0_i32_1172 : BitVec 32 := 0#32
  let c1_i32 : BitVec 32 := 1#32
  let arg23 : BitVec 32 := Scf.iv c0_i32_1172 c1_i32 k0_t1
  let c4_i32_1601 : BitVec 32 := 4#32
  let v2609 : BitVec 32 := Scalar.muli arg23 c4_i32_1601
  let v2665 : BitVec 32 := Scalar.addi v2609 c0_i32_1646
  let v2666 : Index := Scalar.indexCast v2665
  let c0_i32_1602 : BitVec 32 := 0#32
  let c1_i32_1603 : BitVec 32 := 1#32
  let arg24 : BitVec 32 := Scf.iv c0_i32_1602 c1_i32_1603 k0_t2
  let c16_i32 : BitVec 32 := 16#32
  let v2651 : BitVec 32 := Scalar.muli arg24 c16_i32
  let v2652 : BitVec 32 := Scalar.addi v2651 c0_i32_1633
  let v2667 : Index := Scalar.indexCast v2652
  let c0_1647 : Index := 0#32
  ![v2666.toNat, v2667.toNat, 0]
def k0_off8 (k0_t1 : Fin k0_t1_loop.trips) (k0_t2 : Fin k0_t2_loop.trips) (c0_i32_1658 : BitVec 32) (c0_i32_1633 : BitVec 32) : Fin 3 → Nat :=
  let c0_i32_1172 : BitVec 32 := 0#32
  let c1_i32 : BitVec 32 := 1#32
  let arg23 : BitVec 32 := Scf.iv c0_i32_1172 c1_i32 k0_t1
  let c4_i32_1601 : BitVec 32 := 4#32
  let v2609 : BitVec 32 := Scalar.muli arg23 c4_i32_1601
  let v2698 : BitVec 32 := Scalar.addi v2609 c0_i32_1658
  let v2700 : Index := Scalar.indexCast v2698
  let c0_i32_1602 : BitVec 32 := 0#32
  let c1_i32_1603 : BitVec 32 := 1#32
  let arg24 : BitVec 32 := Scf.iv c0_i32_1602 c1_i32_1603 k0_t2
  let c16_i32 : BitVec 32 := 16#32
  let v2651 : BitVec 32 := Scalar.muli arg24 c16_i32
  let v2652 : BitVec 32 := Scalar.addi v2651 c0_i32_1633
  let c9_i32 : BitVec 32 := 9#32
  let v2699 : BitVec 32 := Scalar.muli v2652 c9_i32
  let v2701 : Index := Scalar.indexCast v2699
  let c0_1659 : Index := 0#32
  ![v2700.toNat, v2701.toNat, 0]
def k0_cond3 (i : grid0.Coords) : BitVec 1 :=
  let arg1 : BitVec 32 := BitVec.ofNat 32 (i 1).val
  let c4_i32 : BitVec 32 := 4#32
  let v2606 : BitVec 1 := Scalar.cmpi .eq arg1 c4_i32
  let v2607 : BitVec 32 := Scalar.extui v2606
  let c0_i32_1600 : BitVec 32 := 0#32
  let v2608 : BitVec 1 := Scalar.cmpi .ne v2607 c0_i32_1600
  v2608

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_13 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x1536x128 .fp8e4m3 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S3x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x1536x128 .fp8e4m3 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S3x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1x16x128 .fp8e4m3 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S3x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S1x16x128 .fp8e4m3 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S3x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![false, true]

abbrev stage0_8 : Fin 2 → Memref sig .tc .vmem S1x1536x128 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 1 → Memref sig .tc .vmem S16x1536 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S12x128 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 1 → Memref sig .tc .vmem S12x128 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]

abbrev stage0_12 : Fin 2 → Memref sig .tc .vmem S1x1536x128 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]

abbrev stage0_13 : Fin 2 → Memref sig .tc .vmem S1x16x1536 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, false]
-- ==== KernelIdeal.lean ====
variable {F : FTy → Type} [FloatOps F] [Named F]
def κ : String → Option EReal := fun
  | "half_log2_e" => some ((2⁻¹ * (Real.log 2)⁻¹ : ℝ) : EReal)
  | "log2_e" => some (((Real.log 2)⁻¹ : ℝ) : EReal)
  | "log_2" => some ((Real.log 2 : ℝ) : EReal)
  | "neg_log2_e" => some ((-((Real.log 2)⁻¹) : ℝ) : EReal)
  | _ => none
-- ==== ReferenceIdeal.lean ====
abbrev S3x1536x640 : Shape := ⟨3, ![3, 1536, 640]⟩
abbrev S3x640 : Shape := ⟨2, ![3, 640]⟩
abbrev S3x16x640 : Shape := ⟨3, ![3, 16, 640]⟩
abbrev S1536x16 : Shape := ⟨2, ![1536, 16]⟩
abbrev S1536 : Shape := ⟨1, ![1536]⟩
abbrev S3x16x1536 : Shape := ⟨3, ![3, 16, 1536]⟩
abbrev S640x3x1536 : Shape := ⟨3, ![640, 3, 1536]⟩
abbrev S640x3x16 : Shape := ⟨3, ![640, 3, 16]⟩
abbrev S3x1x640 : Shape := ⟨3, ![3, 1, 640]⟩
abbrev S1x1536x1 : Shape := ⟨3, ![1, 1536, 1]⟩
abbrev S16x1536 : Shape := ⟨2, ![16, 1536]⟩
abbrev S1x3x1536 : Shape := ⟨3, ![1, 3, 1536]⟩
abbrev S3x1536 : Shape := ⟨2, ![3, 1536]⟩
abbrev S3x1x1536 : Shape := ⟨3, ![3, 1, 1536]⟩
abbrev S1x16x1536 : Shape := ⟨3, ![1, 16, 1536]⟩
abbrev S1x3x16 : Shape := ⟨3, ![1, 3, 16]⟩
abbrev S3x16 : Shape := ⟨2, ![3, 16]⟩
abbrev S3x16x1 : Shape := ⟨3, ![3, 16, 1]⟩

abbrev nBuf : Space → Nat
  | .hbm => 14
  | .vmem => 19
  | .smem => 0
  | _ => 0

abbrev bufTy : (tb : Table) → Fin (tcTables nBuf tb) → BufTy
  | .hbm, ⟨0, _⟩ => ⟨S3x1536x640, .fp8e4m3⟩
  | .hbm, ⟨1, _⟩ => ⟨S3x640, .f32⟩
  | .hbm, ⟨2, _⟩ => ⟨S3x1536x640, .fp8e4m3⟩
  | .hbm, ⟨3, _⟩ => ⟨S3x640, .f32⟩
  | .hbm, ⟨4, _⟩ => ⟨S3x16x640, .fp8e4m3⟩
  | .hbm, ⟨5, _⟩ => ⟨S3x640, .f32⟩
  | .hbm, ⟨6, _⟩ => ⟨S3x16x640, .fp8e4m3⟩
  | .hbm, ⟨7, _⟩ => ⟨S3x640, .f32⟩
  | .hbm, ⟨8, _⟩ => ⟨S3x1536x640, .bf16⟩
  | .hbm, ⟨9, _⟩ => ⟨S1536x16, .f32⟩
  | .hbm, ⟨10, _⟩ => ⟨S1536, .f32⟩
  | .hbm, ⟨11, _⟩ => ⟨S1536, .f32⟩
  | .hbm, ⟨12, _⟩ => ⟨S3x1536x640, .bf16⟩
  | .hbm, ⟨13, _⟩ => ⟨S3x16x1536, .f32⟩
  | .local _ .vmem, ⟨0, _⟩ => ⟨S3x1536x640, .fp8e4m3⟩
  | .local _ .vmem, ⟨1, _⟩ => ⟨S3x640, .f32⟩
  | .local _ .vmem, ⟨2, _⟩ => ⟨S3x1536x640, .fp8e4m3⟩
  | .local _ .vmem, ⟨3, _⟩ => ⟨S3x640, .f32⟩
  | .local _ .vmem, ⟨4, _⟩ => ⟨S3x16x640, .fp8e4m3⟩
  | .local _ .vmem, ⟨5, _⟩ => ⟨S3x640, .f32⟩
  | .local _ .vmem, ⟨6, _⟩ => ⟨S3x16x640, .fp8e4m3⟩
  | .local _ .vmem, ⟨7, _⟩ => ⟨S3x640, .f32⟩
  | .local _ .vmem, ⟨8, _⟩ => ⟨S3x1536x640, .bf16⟩
  | .local _ .vmem, ⟨9, _⟩ => ⟨S1536x16, .f32⟩
  | .local _ .vmem, ⟨10, _⟩ => ⟨S1536, .f32⟩
  | .local _ .vmem, ⟨11, _⟩ => ⟨S1536, .f32⟩
  | .local _ .vmem, ⟨12, _⟩ => ⟨S3x1536x640, .bf16⟩
  | .local _ .vmem, ⟨13, _⟩ => ⟨S3x16x1536, .f32⟩
  | .local _ .vmem, ⟨14, _⟩ => ⟨S640x3x1536, .f32⟩
  | .local _ .vmem, ⟨15, _⟩ => ⟨S640x3x1536, .f32⟩
  | .local _ .vmem, ⟨16, _⟩ => ⟨S640x3x16, .f32⟩
  | .local _ .vmem, ⟨17, _⟩ => ⟨S640x3x16, .f32⟩
  | .local _ .vmem, ⟨18, _⟩ => ⟨S640x3x1536, .f32⟩
  | _, _ => ⟨S3x1536x640, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0_0 : Ref sig .tc := ⟨.hbm, 12, rfl⟩
abbrev main_v0_1 : Ref sig .tc := ⟨.hbm, 13, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg12_0 : Ref sig .tc := ⟨.vmem, 12, rfl⟩
abbrev cc0_stg13_0 : Ref sig .tc := ⟨.vmem, 13, rfl⟩
abbrev cc0_scratch0 : Ref sig .tc := ⟨.vmem, 14, rfl⟩
abbrev cc0_scratch1 : Ref sig .tc := ⟨.vmem, 15, rfl⟩
abbrev cc0_scratch2 : Ref sig .tc := ⟨.vmem, 16, rfl⟩
abbrev cc0_scratch3 : Ref sig .tc := ⟨.vmem, 17, rfl⟩
abbrev cc0_scratch4 : Ref sig .tc := ⟨.vmem, 18, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12
abbrev cc0_sem13_0 : DmaSem sig := 13

abbrev nD : Nat := 1
abbrev τ : Topo := Topo.v7x

variable {F : FTy → Type} [FloatOps F] [Named F]

def κ : String → Option EReal := fun
  | "exp_cap" => some ((64 * (Real.log 2) : ℝ) : EReal)
  | _ => none

abbrev grid0 : Pipeline.Grid := .none

@[reducible] def k0_t1_loop : Scf.Loop 32 :=
  let c0_i32 : BitVec 32 := 0#32
  let c640_i32 : BitVec 32 := 640#32
  let v59 : BitVec 32 := Scalar.addi c0_i32 c640_i32
  let c1_i32 : BitVec 32 := 1#32
  ⟨c0_i32, v59, c1_i32⟩
def k0_off1 (k0_t1 : Fin k0_t1_loop.trips) : Fin 3 → Nat :=
  let c0_i32 : BitVec 32 := 0#32
  let c1_i32 : BitVec 32 := 1#32
  let arg19 : BitVec 32 := Scf.iv c0_i32 c1_i32 k0_t1
  let v79 : Index := Scalar.indexCast arg19
  let c0_52 : Index := 0#32
  let c0_53 : Index := 0#32
  ![v79.toNat, 0, 0]
def k0_off2 (k0_t1 : Fin k0_t1_loop.trips) : Fin 3 → Nat :=
  let c0_i32 : BitVec 32 := 0#32
  let c1_i32 : BitVec 32 := 1#32
  let arg19 : BitVec 32 := Scf.iv c0_i32 c1_i32 k0_t1
  let v95 : Index := Scalar.indexCast arg19
  let c0_59 : Index := 0#32
  let c0_60 : Index := 0#32
  ![v95.toNat, 0, 0]
abbrev stage0_0 : Fin 1 → Memref sig .tc .vmem S3x1536x640 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S3x640 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S3x1536x640 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S3x640 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S3x16x640 .fp8e4m3 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S3x640 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S3x16x640 .fp8e4m3 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S3x640 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S3x1536x640 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S1536x16 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S1536 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))

abbrev stage0_11 : Fin 1 → Memref sig .tc .vmem S1536 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))

abbrev stage0_12 : Fin 1 → Memref sig .tc .vmem S3x1536x640 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))

abbrev stage0_13 : Fin 1 → Memref sig .tc .vmem S3x16x1536 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
-- ==== Proof.KernelRun.lean ====
module

public import proofs.«01_k».proof.Proof.Gen.Kernel.Loops
public import proofs.«01_k».proof.Proof.Gen.Kernel.Frame
public import proofs.«01_k».proof.Proof.Gen.Kernel.Skeleton
public import Idealize.ShloMosaic.Lib.Pipeline.Frame
public import Idealize.ShloMosaic.Lib.Tactic
public import Idealize.ShloMosaic.Lib.Claim

@[expose] public section

set_option maxRecDepth 16384
set_option maxHeartbeats 1000000

noncomputable section

namespace Cert.Proof.Kernel

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F]

local notation "𝕄" => MT nD τ sig Unit (Elt F) ℕ (UR sig nD τ) ℕ

/-- The loop over the groups of channel blocks, for termination alone: what it reads at its contents, the partial sums
    and the state at some contents. -/
@[sl_loop] def loopInv_k0_t1 (c : Dev nD) (i : grid0.Coords) (arg2 : Memref sig .tc .vmem S1x1536x128 .fp8e4m3) (harg2 : arg2.IsWhole) (arg3 : Memref sig .tc .vmem S3x128 .f32) (harg3 : arg3.IsWhole) (arg4 : Memref sig .tc .vmem S1x1536x128 .fp8e4m3) (harg4 : arg4.IsWhole) (arg5 : Memref sig .tc .vmem S3x128 .f32) (harg5 : arg5.IsWhole) (arg6 : Memref sig .tc .vmem S1x16x128 .fp8e4m3) (harg6 : arg6.IsWhole) (arg7 : Memref sig .tc .vmem S3x128 .f32) (harg7 : arg7.IsWhole) (arg8 : Memref sig .tc .vmem S1x16x128 .fp8e4m3) (harg8 : arg8.IsWhole) (arg9 : Memref sig .tc .vmem S3x128 .f32) (harg9 : arg9.IsWhole) (arg10 : Memref sig .tc .vmem S1x1536x128 .bf16) (harg10 : arg10.IsWhole) (arg11 : Memref sig .tc .vmem S16x1536 .f32) (harg11 : arg11.IsWhole) (arg12 : Memref sig .tc .vmem S12x128 .f32) (harg12 : arg12.IsWhole) (arg13 : Memref sig .tc .vmem S12x128 .f32) (harg13 : arg13.IsWhole) (arg14 : Memref sig .tc .vmem S1x1536x128 .bf16) (harg14 : arg14.IsWhole) (arg15 : Memref sig .tc .vmem S1x16x1536 .f32) (harg15 : arg15.IsWhole) (arg16 : Memref sig .tc .vmem S12x128x128 .f32) (harg16 : arg16.IsWhole) (arg17 : Memref sig .tc .vmem S12x128x128 .f32) (harg17 : arg17.IsWhole) (arg18 : Memref sig .tc .vmem S12x128x128 .f32) (harg18 : arg18.IsWhole) (arg19 : Memref sig .tc .vmem S12x1152x128 .f32) (harg19 : arg19.IsWhole) (arg20 : Memref sig .tc .vmem S24x8x128 .f32) (harg20 : arg20.IsWhole) (arg21 : Memref sig .tc .vmem S24x8x128 .f32) (harg21 : arg21.IsWhole) (arg22 : Memref sig .tc .vmem S2x128x16x128 .f32) (harg22 : arg22.IsWhole)
    (v14 : FVec F S128x128 .bf16) (v2048 : FVec F S128x128 .f32) (X16 : BufTy.Contents (Elt F) arg16.view.ty) (X17 : BufTy.Contents (Elt F) arg17.view.ty) (X21 : BufTy.Contents (Elt F) arg21.view.ty) (X22 : BufTy.Contents (Elt F) arg22.view.ty) :
    LoopInvTy_k0_t1 (F := F) Unit ℕ (UR sig nD τ) ℕ Variants.none c none Set.univ i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 v14 v2048 where
  inv := fun k acc => iprop((arg16.view.loc (c : Thread nD τ) ↦[arg16.view.set]{fullShare} X16) ∗ (arg17.view.loc (c : Thread nD τ) ↦[arg17.view.set]{fullShare} X17) ∗ (arg21.view.loc (c : Thread nD τ) ↦[arg21.view.set]{fullShare} X21) ∗ (arg22.view.loc (c : Thread nD τ) ↦[arg22.view.set]{fullShare} X22) ∗ (∃ f, (arg19.view.loc (c : Thread nD τ) ↦[arg19.view.set]{fullShare} f)) ∗ (∃ f, (arg20.view.loc (c : Thread nD τ) ↦[arg20.view.set]{fullShare} f)))
  step := fun k acc => by
    unfold k0_t1_body
    iintro ⟨H16, H17, H21, H22, ⟨%f19, H19⟩, ⟨%f20, H20⟩⟩
    sl_exec
    sl_step
    isplitl [H16]; · iexact H16
    isplitl [H17]; · iexact H17
    isplitl [H21]; · iexact H21
    isplitl [H22]; · iexact H22
    isplitl [H19]
    · iexists _; iexact H19
    iexists _; iexact H20

set_option maxHeartbeats 8000000 in
/-- The body on whole memrefs: it runs to the end, the inputs as they were, the outputs and the scratch at some contents. -/
theorem kernelRun (c : Dev nD) (i : grid0.Coords) (arg2 : Memref sig .tc .vmem S1x1536x128 .fp8e4m3) (harg2 : arg2.IsWhole) (arg3 : Memref sig .tc .vmem S3x128 .f32) (harg3 : arg3.IsWhole) (arg4 : Memref sig .tc .vmem S1x1536x128 .fp8e4m3) (harg4 : arg4.IsWhole) (arg5 : Memref sig .tc .vmem S3x128 .f32) (harg5 : arg5.IsWhole) (arg6 : Memref sig .tc .vmem S1x16x128 .fp8e4m3) (harg6 : arg6.IsWhole) (arg7 : Memref sig .tc .vmem S3x128 .f32) (harg7 : arg7.IsWhole) (arg8 : Memref sig .tc .vmem S1x16x128 .fp8e4m3) (harg8 : arg8.IsWhole) (arg9 : Memref sig .tc .vmem S3x128 .f32) (harg9 : arg9.IsWhole) (arg10 : Memref sig .tc .vmem S1x1536x128 .bf16) (harg10 : arg10.IsWhole) (arg11 : Memref sig .tc .vmem S16x1536 .f32) (harg11 : arg11.IsWhole) (arg12 : Memref sig .tc .vmem S12x128 .f32) (harg12 : arg12.IsWhole) (arg13 : Memref sig .tc .vmem S12x128 .f32) (harg13 : arg13.IsWhole) (arg14 : Memref sig .tc .vmem S1x1536x128 .bf16) (harg14 : arg14.IsWhole) (arg15 : Memref sig .tc .vmem S1x16x1536 .f32) (harg15 : arg15.IsWhole) (arg16 : Memref sig .tc .vmem S12x128x128 .f32) (harg16 : arg16.IsWhole) (arg17 : Memref sig .tc .vmem S12x128x128 .f32) (harg17 : arg17.IsWhole) (arg18 : Memref sig .tc .vmem S12x128x128 .f32) (harg18 : arg18.IsWhole) (arg19 : Memref sig .tc .vmem S12x1152x128 .f32) (harg19 : arg19.IsWhole) (arg20 : Memref sig .tc .vmem S24x8x128 .f32) (harg20 : arg20.IsWhole) (arg21 : Memref sig .tc .vmem S24x8x128 .f32) (harg21 : arg21.IsWhole) (arg22 : Memref sig .tc .vmem S2x128x16x128 .f32) (harg22 : arg22.IsWhole)
    (x2 : Vec F S1x1536x128 .fp8e4m3) (x3 : Vec F S3x128 .f32) (x4 : Vec F S1x1536x128 .fp8e4m3) (x5 : Vec F S3x128 .f32) (x6 : Vec F S1x16x128 .fp8e4m3) (x7 : Vec F S3x128 .f32) (x8 : Vec F S1x16x128 .fp8e4m3) (x9 : Vec F S3x128 .f32) (x10 : Vec F S1x1536x128 .bf16) (x11 : Vec F S16x1536 .f32) (x12 : Vec F S12x128 .f32) (x13 : Vec F S12x128 .f32) (E : Set ℕ) (hE : E = Set.univ) (K : PUnit → sProp 𝕄) :
    iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ owns (c : Thread nD τ) arg12 fullShare x12 ∗ owns (c : Thread nD τ) arg13 fullShare x13 ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d) ∗ (∃ d, owns (c : Thread nD τ) arg20 fullShare d) ∗ (∃ d, owns (c : Thread nD τ) arg21 fullShare d) ∗ (∃ d, owns (c : Thread nD τ) arg22 fullShare d) ∗ (iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ owns (c : Thread nD τ) arg12 fullShare x12 ∗ owns (c : Thread nD τ) arg13 fullShare x13 ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d) ∗ (∃ d, owns (c : Thread nD τ) arg20 fullShare d) ∗ (∃ d, owns (c : Thread nD τ) arg21 fullShare d) ∗ (∃ d, owns (c : Thread nD τ) arg22 fullShare d)) -∗ K ⟨⟩))
      ⊢ wp frame (wpE (defs₀ (F := F)) Variants.none c none) E (cc0_selective_scan (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22) K := by
  subst hE
  simp only [cc0_selective_scan_eq_skeleton]; unfold cc0_selective_scan_skel
  unfold owns
  iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%d14, %f14, -, H14⟩, ⟨%d15, %f15, -, H15⟩, ⟨%d16, %f16, -, H16⟩, ⟨%d17, %f17, -, H17⟩, ⟨%d18, %f18, -, H18⟩, ⟨%d19, %f19, -, H19⟩, ⟨%d20, %f20, -, H20⟩, ⟨%d21, %f21, -, H21⟩, ⟨%d22, %f22, -, H22⟩, Hk⟩
  obtain rfl := harg2.eq_unread hf2; obtain rfl := harg3.eq_unread hf3; obtain rfl := harg4.eq_unread hf4; obtain rfl := harg5.eq_unread hf5; obtain rfl := harg6.eq_unread hf6; obtain rfl := harg7.eq_unread hf7; obtain rfl := harg8.eq_unread hf8; obtain rfl := harg9.eq_unread hf9; obtain rfl := harg10.eq_unread hf10; obtain rfl := harg11.eq_unread hf11; obtain rfl := harg12.eq_unread hf12; obtain rfl := harg13.eq_unread hf13
  sl_exec
  sl_step
  iapply Hk
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H6]
  · iexists _; isplitr; · ipureintro; exact harg6.read_unread _
    iexact H6
  isplitl [H7]
  · iexists _; isplitr; · ipureintro; exact harg7.read_unread _
    iexact H7
  isplitl [H8]
  · iexists _; isplitr; · ipureintro; exact harg8.read_unread _
    iexact H8
  isplitl [H9]
  · iexists _; isplitr; · ipureintro; exact harg9.read_unread _
    iexact H9
  isplitl [H10]
  · iexists _; isplitr; · ipureintro; exact harg10.read_unread _
    iexact H10
  isplitl [H11]
  · iexists _; isplitr; · ipureintro; exact harg11.read_unread _
    iexact H11
  isplitl [H12]
  · iexists _; isplitr; · ipureintro; exact harg12.read_unread _
    iexact H12
  isplitl [H13]
  · iexists _; isplitr; · ipureintro; exact harg13.read_unread _
    iexact H13
  isplitl [H14]
  · iexists _, _; isplitr; swap; · iexact H14
    ipureintro; rfl
  isplitl [H15]
  · iexists _, _; isplitr; swap; · iexact H15
    ipureintro; rfl
  isplitl [H16]
  · iexists _, _; isplitr; swap; · iexact H16
    ipureintro; rfl
  isplitl [H17]
  · iexists _, _; isplitr; swap; · iexact H17
    ipureintro; rfl
  isplitl [H18]
  · iexists _, _; isplitr; swap; · iexact H18
    ipureintro; rfl
  isplitl [H19]
  · iexists _, _; isplitr; swap; · iexact H19
    ipureintro; rfl
  isplitl [H20]
  · iexists _, _; isplitr; swap; · iexact H20
    ipureintro; rfl
  isplitl [H21]
  · iexists _, _; isplitr; swap; · iexact H21
    ipureintro; rfl
  iexists _, _; isplitr; swap; · iexact H22
  ipureintro; rfl

end Cert.Proof.Kernel

end
-- ==== Proof.KernelFrame.lean ====
module

public import proofs.«01_k».proof.Proof.Gen.Kernel.Loops
public import proofs.«01_k».proof.Proof.Gen.Kernel.Frame
public import proofs.«01_k».proof.Proof.KernelRun
public import Idealize.ShloMosaic.Lib.Pipeline.Frame
public import Idealize.ShloMosaic.Lib.Tactic
public import Idealize.ShloMosaic.Lib.Claim

@[expose] public section

set_option maxRecDepth 16384
set_option maxHeartbeats 1000000

noncomputable section

namespace Cert.Proof.Kernel

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The two outputs, of which nothing is named here. -/
def forgets0 : Fin 14 → Bool := fun w => w.val == 12 || w.val == 13

/-- The pipeline's proof data for termination and the frame alone: every input at its block, the outputs unnamed. -/
def fdats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, h⟩ => Pipeline.Dat.unnamed (cfg := cfg0) ⟨12, h⟩ t
    | ⟨13, h⟩ => Pipeline.Dat.unnamed (cfg := cfg0) ⟨13, h⟩ t
  Φ _ := Pipeline.ΦA spec0 c
  q _ := fullShare
  owed _ := 0

theorem A_eq (c : Dev nD) (w : Fin cfg0.W) : (fdats m 0 c).A w = V m c (Pipeline.arrRef spec0 w) := by
  dsimp only [fdats]
theorem after0_0 (c : Dev nD) (t : Fin cfg0.N) : (fdats m 0 c).after 0 t = iblk m c 0 t := by dsimp only [fdats]
theorem after0_1 (c : Dev nD) (t : Fin cfg0.N) : (fdats m 0 c).after 1 t = iblk m c 1 t := by dsimp only [fdats]
theorem after0_2 (c : Dev nD) (t : Fin cfg0.N) : (fdats m 0 c).after 2 t = iblk m c 2 t := by dsimp only [fdats]
theorem after0_3 (c : Dev nD) (t : Fin cfg0.N) : (fdats m 0 c).after 3 t = iblk m c 3 t := by dsimp only [fdats]
theorem after0_4 (c : Dev nD) (t : Fin cfg0.N) : (fdats m 0 c).after 4 t = iblk m c 4 t := by dsimp only [fdats]
theorem after0_5 (c : Dev nD) (t : Fin cfg0.N) : (fdats m 0 c).after 5 t = iblk m c 5 t := by dsimp only [fdats]
theorem after0_6 (c : Dev nD) (t : Fin cfg0.N) : (fdats m 0 c).after 6 t = iblk m c 6 t := by dsimp only [fdats]
theorem after0_7 (c : Dev nD) (t : Fin cfg0.N) : (fdats m 0 c).after 7 t = iblk m c 7 t := by dsimp only [fdats]
theorem after0_8 (c : Dev nD) (t : Fin cfg0.N) : (fdats m 0 c).after 8 t = iblk m c 8 t := by dsimp only [fdats]
theorem after0_9 (c : Dev nD) (t : Fin cfg0.N) : (fdats m 0 c).after 9 t = iblk m c 9 t := by dsimp only [fdats]
theorem after0_10 (c : Dev nD) (t : Fin cfg0.N) : (fdats m 0 c).after 10 t = iblk m c 10 t := by dsimp only [fdats]
theorem after0_11 (c : Dev nD) (t : Fin cfg0.N) : (fdats m 0 c).after 11 t = iblk m c 11 t := by dsimp only [fdats]
theorem before0_0 (c : Dev nD) (t : Fin cfg0.N) (d) : (fdats m 0 c).before 0 t d = iblk m c 0 t :=
  before0_0_of m (fdats m 0 c) (A_eq m c 0) (after0_0 m c) t d
theorem before0_1 (c : Dev nD) (t : Fin cfg0.N) (d) : (fdats m 0 c).before 1 t d = iblk m c 1 t :=
  before0_1_of m (fdats m 0 c) (A_eq m c 1) (after0_1 m c) t d
theorem before0_2 (c : Dev nD) (t : Fin cfg0.N) (d) : (fdats m 0 c).before 2 t d = iblk m c 2 t :=
  before0_2_of m (fdats m 0 c) (A_eq m c 2) (after0_2 m c) t d
theorem before0_3 (c : Dev nD) (t : Fin cfg0.N) (d) : (fdats m 0 c).before 3 t d = iblk m c 3 t :=
  before0_3_of m (fdats m 0 c) (A_eq m c 3) (after0_3 m c) t d
theorem before0_4 (c : Dev nD) (t : Fin cfg0.N) (d) : (fdats m 0 c).before 4 t d = iblk m c 4 t :=
  before0_4_of m (fdats m 0 c) (A_eq m c 4) (after0_4 m c) t d
theorem before0_5 (c : Dev nD) (t : Fin cfg0.N) (d) : (fdats m 0 c).before 5 t d = iblk m c 5 t :=
  before0_5_of m (fdats m 0 c) (A_eq m c 5) (after0_5 m c) t d
theorem before0_6 (c : Dev nD) (t : Fin cfg0.N) (d) : (fdats m 0 c).before 6 t d = iblk m c 6 t :=
  before0_6_of m (fdats m 0 c) (A_eq m c 6) (after0_6 m c) t d
theorem before0_7 (c : Dev nD) (t : Fin cfg0.N) (d) : (fdats m 0 c).before 7 t d = iblk m c 7 t :=
  before0_7_of m (fdats m 0 c) (A_eq m c 7) (after0_7 m c) t d
theorem before0_8 (c : Dev nD) (t : Fin cfg0.N) (d) : (fdats m 0 c).before 8 t d = iblk m c 8 t :=
  before0_8_of m (fdats m 0 c) (A_eq m c 8) (after0_8 m c) t d
theorem before0_9 (c : Dev nD) (t : Fin cfg0.N) (d) : (fdats m 0 c).before 9 t d = iblk m c 9 t :=
  before0_9_of m (fdats m 0 c) (A_eq m c 9) (after0_9 m c) t d
theorem before0_10 (c : Dev nD) (t : Fin cfg0.N) (d) : (fdats m 0 c).before 10 t d = iblk m c 10 t :=
  before0_10_of m (fdats m 0 c) (A_eq m c 10) (after0_10 m c) t d
theorem before0_11 (c : Dev nD) (t : Fin cfg0.N) (d) : (fdats m 0 c).before 11 t d = iblk m c 11 t :=
  before0_11_of m (fdats m 0 c) (A_eq m c 11) (after0_11 m c) t d

/-- The invariant with the scratch operands as memrefs owned at some contents. -/
theorem PhiA0_eq (c : Dev nD) :
    (Pipeline.ΦA spec0 c : sProp 𝕄) = iprop(iprop((∃ d, owns (c : Thread nD τ) (Memref.whole cc0_scratch0) fullShare d) ∗ (∃ d, owns (c : Thread nD τ) (Memref.whole cc0_scratch1) fullShare d) ∗ (∃ d, owns (c : Thread nD τ) (Memref.whole cc0_scratch2) fullShare d) ∗ (∃ d, owns (c : Thread nD τ) (Memref.whole cc0_scratch3) fullShare d) ∗ (∃ d, owns (c : Thread nD τ) (Memref.whole cc0_scratch4) fullShare d) ∗ (∃ d, owns (c : Thread nD τ) (Memref.whole cc0_scratch5) fullShare d) ∗ (∃ d, owns (c : Thread nD τ) (Memref.whole cc0_scratch6) fullShare d)) ∗ (∃ r, prngReg c r)) := by
  unfold Pipeline.ΦA; rw [scopedRest0_eq]; simp only [owns_whole]; try rfl

/-- What the body is called with at point `t`, the windows one by one, -/
def bodyPre (c : Dev nD) (t : Fin cfg0.N) : sProp 𝕄 :=
  iprop((fdats m 0 c).Φ t.castSucc ∗ (fdats m 0 c).owesAt () t.castSucc
    ∗ (∃ d, owns (c : Thread nD τ) (win0_0.stage (cfg0.slots t 0)) fullShare ((fdats m 0 c).before 0 t d))
    ∗ (∃ d, owns (c : Thread nD τ) (win0_1.stage (cfg0.slots t 1)) fullShare ((fdats m 0 c).before 1 t d))
    ∗ (∃ d, owns (c : Thread nD τ) (win0_2.stage (cfg0.slots t 2)) fullShare ((fdats m 0 c).before 2 t d))
    ∗ (∃ d, owns (c : Thread nD τ) (win0_3.stage (cfg0.slots t 3)) fullShare ((fdats m 0 c).before 3 t d))
    ∗ (∃ d, owns (c : Thread nD τ) (win0_4.stage (cfg0.slots t 4)) fullShare ((fdats m 0 c).before 4 t d))
    ∗ (∃ d, owns (c : Thread nD τ) (win0_5.stage (cfg0.slots t 5)) fullShare ((fdats m 0 c).before 5 t d))
    ∗ (∃ d, owns (c : Thread nD τ) (win0_6.stage (cfg0.slots t 6)) fullShare ((fdats m 0 c).before 6 t d))
    ∗ (∃ d, owns (c : Thread nD τ) (win0_7.stage (cfg0.slots t 7)) fullShare ((fdats m 0 c).before 7 t d))
    ∗ (∃ d, owns (c : Thread nD τ) (win0_8.stage (cfg0.slots t 8)) fullShare ((fdats m 0 c).before 8 t d))
    ∗ (∃ d, owns (c : Thread nD τ) (win0_9.stage (cfg0.slots t 9)) fullShare ((fdats m 0 c).before 9 t d))
    ∗ (∃ d, owns (c : Thread nD τ) (win0_10.stage (cfg0.slots t 10)) fullShare ((fdats m 0 c).before 10 t d))
    ∗ (∃ d, owns (c : Thread nD τ) (win0_11.stage (cfg0.slots t 11)) fullShare ((fdats m 0 c).before 11 t d))
    ∗ (∃ d, owns (c : Thread nD τ) (win0_12.stage (cfg0.slots t 12)) fullShare d)
    ∗ (∃ d, owns (c : Thread nD τ) (win0_13.stage (cfg0.slots t 13)) fullShare d))

/-- and what it returns. -/
def bodyPost (c : Dev nD) (t : Fin cfg0.N) : sProp 𝕄 :=
  iprop((fdats m 0 c).Φ t.succ ∗ (fdats m 0 c).owesAt () t.succ
    ∗ owns (c : Thread nD τ) (win0_0.stage (cfg0.slots t 0)) fullShare ((fdats m 0 c).after 0 t)
    ∗ owns (c : Thread nD τ) (win0_1.stage (cfg0.slots t 1)) fullShare ((fdats m 0 c).after 1 t)
    ∗ owns (c : Thread nD τ) (win0_2.stage (cfg0.slots t 2)) fullShare ((fdats m 0 c).after 2 t)
    ∗ owns (c : Thread nD τ) (win0_3.stage (cfg0.slots t 3)) fullShare ((fdats m 0 c).after 3 t)
    ∗ owns (c : Thread nD τ) (win0_4.stage (cfg0.slots t 4)) fullShare ((fdats m 0 c).after 4 t)
    ∗ owns (c : Thread nD τ) (win0_5.stage (cfg0.slots t 5)) fullShare ((fdats m 0 c).after 5 t)
    ∗ owns (c : Thread nD τ) (win0_6.stage (cfg0.slots t 6)) fullShare ((fdats m 0 c).after 6 t)
    ∗ owns (c : Thread nD τ) (win0_7.stage (cfg0.slots t 7)) fullShare ((fdats m 0 c).after 7 t)
    ∗ owns (c : Thread nD τ) (win0_8.stage (cfg0.slots t 8)) fullShare ((fdats m 0 c).after 8 t)
    ∗ owns (c : Thread nD τ) (win0_9.stage (cfg0.slots t 9)) fullShare ((fdats m 0 c).after 9 t)
    ∗ owns (c : Thread nD τ) (win0_10.stage (cfg0.slots t 10)) fullShare ((fdats m 0 c).after 10 t)
    ∗ owns (c : Thread nD τ) (win0_11.stage (cfg0.slots t 11)) fullShare ((fdats m 0 c).after 11 t)
    ∗ (∃ d, owns (c : Thread nD τ) (win0_12.stage (cfg0.slots t 12)) fullShare d)
    ∗ (∃ d, owns (c : Thread nD τ) (win0_13.stage (cfg0.slots t 13)) fullShare d))

set_option maxHeartbeats 1600000 in
/-- The body at any point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8, before0_9, before0_10, before0_11]
  rw [show (fdats m 0 c).Φ t.succ = (fdats m 0 c).Φ t.castSucc from rfl,
    show (fdats m 0 c).owesAt () t.succ = (fdats m 0 c).owesAt () t.castSucc from rfl,
    after0_0, after0_1, after0_2, after0_3, after0_4, after0_5, after0_6, after0_7, after0_8, after0_9, after0_10, after0_11]
  rw [show (fdats m 0 c).Φ t.castSucc = Pipeline.ΦA spec0 c from rfl, PhiA0_eq]
  iintro ⟨⟨⟨HS0, HS1, HS2, HS3, HS4, HS5, HS6⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩⟩
  iapply (kernelRun c _ _ _ _ _ _ _ _ _ _ _ _ _ _ _ _ _ _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) Set.univ rfl _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexists _; iexact H12
  isplitl [H13]; · iexists _; iexact H13
  isplitl [HS0]; · iexact HS0
  isplitl [HS1]; · iexact HS1
  isplitl [HS2]; · iexact HS2
  isplitl [HS3]; · iexact HS3
  isplitl [HS4]; · iexact HS4
  isplitl [HS5]; · iexact HS5
  isplitl [HS6]; · iexact HS6
  iintro ⟨H0, H1, H2, H3, H4, H5, H6, H7, H8, H9, H10, H11, H12, H13, HS0, HS1, HS2, HS3, HS4, HS5, HS6⟩
  isplitl [HS0 HS1 HS2 HS3 HS4 HS5 HS6 Hg]
  · isplitl [HS0 HS1 HS2 HS3 HS4 HS5 HS6]
    · isplitl [HS0]
      · iexact HS0
      isplitl [HS1]
      · iexact HS1
      isplitl [HS2]
      · iexact HS2
      isplitl [HS3]
      · iexact HS3
      isplitl [HS4]
      · iexact HS4
      isplitl [HS5]
      · iexact HS5
      iexact HS6
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  iexact H13

theorem defs₀_row (t : Fin cfg0.N) :
    defs₀ (F := F) .tc cfg0.body (cfg0.bodyArgs t (cfg0.slots t)) = bodyAt0 t := by
  unfold defs₀; rw [Defs.onTc_tc]

/-- The body obligation at every point. -/
theorem body_obligation (c : Dev nD) : BodyObligation (fdats (F := F) m 0 c) (defs₀ (F := F)) Variants.none () Set.univ forgets0 := fun t => by
  rw [bigSep_W0, bigSep_W0, defs₀_row]
  exact triple_restated (sound_body m c t) rfl .rfl fun _ => .rfl

set_option backward.isDefEq.respectTransparency.types false in
/-- The launch: every execution terminates, with the inputs unchanged and every counter at zero. -/
theorem run_main_quiescent : θ_run defs (onTc (τ := τ) (main (F := F))) (s₀ m ρ) (fun r => (Pipeline.RDat.FramePost (cfgs 0) (fun c => (fdats m 0 c).toRForget forgets0) (V m)) r ∧ r.2.sem = fun _ => 0) :=
  Pipeline.θ_run_frame_forget (Q' := _) cfgs (fdats m) (0 : Fin 1) launch0 defs₀ Variants.none forgets0 m ρ main
    (hbody := fun c => (body_obligation m c).loose) (hshare := fun c => (fdats m 0 c).share_full fun _ => rfl)
    (howed := fun _ _ => rfl) (V := V m) (hmain := hmain m Variants.none) (hA := A_eq m) (hΦ := fun _ _ => rfl)

/-- Every execution terminates without fault, leaves the arguments unchanged and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11))
      ∧ r.2.sem = fun _ => 0) :=
  (θ_run defs _ _).mono (fun _ hh => ⟨fun c => have h := hh.1; ⟨(Pipeline.RDat.FramePost.arr_in h c 0 rfl).trans ((A_eq m c 0).trans (V_main_arg0 m c)),
    (Pipeline.RDat.FramePost.arr_in h c 1 rfl).trans ((A_eq m c 1).trans (V_main_arg1 m c)),
    (Pipeline.RDat.FramePost.arr_in h c 2 rfl).trans ((A_eq m c 2).trans (V_main_arg2 m c)),
    (Pipeline.RDat.FramePost.arr_in h c 3 rfl).trans ((A_eq m c 3).trans (V_main_arg3 m c)),
    (Pipeline.RDat.FramePost.arr_in h c 4 rfl).trans ((A_eq m c 4).trans (V_main_arg4 m c)),
    (Pipeline.RDat.FramePost.arr_in h c 5 rfl).trans ((A_eq m c 5).trans (V_main_arg5 m c)),
    (Pipeline.RDat.FramePost.arr_in h c 6 rfl).trans ((A_eq m c 6).trans (V_main_arg6 m c)),
    (Pipeline.RDat.FramePost.arr_in h c 7 rfl).trans ((A_eq m c 7).trans (V_main_arg7 m c)),
    (Pipeline.RDat.FramePost.arr_in h c 8 rfl).trans ((A_eq m c 8).trans (V_main_arg8 m c)),
    ((h c).2 main_arg9 (Pipeline.mem_restRefs_of main_arg9 (by decide) (by decide))).trans (V_main_arg9 m c),
    ((h c).2 main_arg10 (Pipeline.mem_restRefs_of main_arg10 (by decide) (by decide))).trans (V_main_arg10 m c),
    ((h c).2 main_arg11 (Pipeline.mem_restRefs_of main_arg11 (by decide) (by decide))).trans (V_main_arg11 m c)⟩, hh.2⟩) (run_main_quiescent m ρ)

end Cert.Proof.Kernel

end
-- ==== Proof.Preserves.lean ====
/-
  The named constants: each of the kernel's float constants that stands for a logarithm is one of the reals it is named for.
-/
module

public import proofs.«01_k».proof.Defs

@[expose] public section

noncomputable section

namespace Cert.Proof

open Idealize.ShloMosaic

/-- The four names of the kernel have the values they are stated with. -/
theorem preserves : preserves_Kernel_KernelIdeal :=
  ⟨IdealRules.named_const.statement Cert.KernelIdeal.κ "log_2" .f32 0x3F317218#32 _ rfl,
   IdealRules.named_const.statement Cert.KernelIdeal.κ "log2_e" .f32 0x3FB8AA3B#32 _ rfl,
   IdealRules.named_const.statement Cert.KernelIdeal.κ "half_log2_e" .f32 0x3F38AA3B#32 _ rfl,
   IdealRules.named_const.statement Cert.KernelIdeal.κ "neg_log2_e" .f32 0xBFB8AA3B#32 _ rfl⟩

end Cert.Proof

end
-- ==== Proof.Spec.lean ====
/-
  The selective scan of one chunk of 128 tokens, as the kernel orders it: the state is held as 24 tiles of 8 states by
  128 channels, tile `q` being half `q % 2` of the states of channel block `q / 2`.
-/
module

public import proofs.«01_k».proof.Proof.Gen.KernelIdeal
public import Idealize.ShloMosaic.Lib.ValueIdx
public import Idealize.ShloMosaic.Lib.ValueLayout

@[expose] public section

noncomputable section

namespace Cert.Proof.KernelIdeal

open Cert.KernelIdeal
open Idealize.ShloMosaic Idealize.ShloMosaic.ValueIdx

variable {F : FTy → Type} [FloatOps F]

/-- The channel block of a state tile. -/
def blk (q : Fin 24) : Fin 12 := ⟨q.val / 2, by omega⟩
/-- A token's position in the chunk. -/
def tm (t : ℕ) : Fin 128 := ⟨t % 128, Nat.mod_lt _ (by decide)⟩
/-- The state that row `s` of tile `q` holds. -/
def st (q : Fin 24) (s : Fin 8) : Fin 16 := ⟨q.val % 2 * 8 + s.val, by omega⟩
/-- Half `j` of channel block `k`, as a state tile. -/
def tile (k : Fin 12) (j : Fin 2) : Fin 24 := ⟨2 * k.val + j.val, by omega⟩

variable (d u : S12x128x128.Idx → F .f32) (a : S24x8x128.Idx → F .f32) (tab : S2x128x16x128.Idx → F .f32)
  (h0 : Fin 24 → Fin 8 → Fin 128 → F .f32)

/-- The state after the first `t` tokens of the chunk. -/
def hAt : ℕ → Fin 24 → Fin 8 → Fin 128 → F .f32
  | 0 => h0
  | t + 1 => fun q s l =>
      FloatOps.addf (FloatOps.mulf (FloatOps.exp2 (FloatOps.mulf (d (ix3 (blk q) (tm t) l)) (a (ix3 q s l)))) (hAt t q s l))
        (FloatOps.mulf (u (ix3 (blk q) (tm t) l)) (tab (ix4 (0 : Fin 2) (tm t) (st q s) l)))

/-- Row `r` of the output's partial sums of token `t` in channel block `k`: states `r` and `8 + r`. -/
def pAt (t : ℕ) (k : Fin 12) (r : Fin 8) (l : Fin 128) : F .f32 :=
  FloatOps.addf
    (FloatOps.mulf (hAt d u a tab h0 (t + 1) (tile k 0) r l) (tab (ix4 (1 : Fin 2) (tm t) (st (tile k 0) r) l)))
    (FloatOps.mulf (hAt d u a tab h0 (t + 1) (tile k 1) r l) (tab (ix4 (1 : Fin 2) (tm t) (st (tile k 1) r) l)))

end Cert.Proof.KernelIdeal

end
-- ==== Proof.TripReads.lean ====
module

public import proofs.«01_k».proof.Proof.Gen.KernelIdeal.Loops
public import proofs.«01_k».proof.Proof.Spec

@[expose] public section

noncomputable section

namespace Cert.Proof.KernelIdeal

open Cert.KernelIdeal Cert.KernelIdeal.Gen
open Idealize.ShloMosaic Idealize.ShloMosaic.ValueIdx Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]
private theorem off7' : ∀ (g : Fin k0_t1_loop.trips) (i : Fin k0_t2_loop.trips) , ∀ kk : Fin 4, ∀ s : Fin 16, k0_off7 g i (BitVec.ofNat 32 kk.val) (BitVec.ofNat 32 s.val) = ![4 * g.val + kk.val, 16 * i.val + s.val, 0] := by decide +kernel
theorem off7 (g : Fin k0_t1_loop.trips) (i : Fin k0_t2_loop.trips) (kk : ℕ) (hkk : kk < 4) (s : ℕ) (hs : s < 16) : k0_off7 g i (BitVec.ofNat 32 kk) (BitVec.ofNat 32 s) = ![4 * g.val + kk, 16 * i.val + s, 0] := off7' g i ⟨kk, hkk⟩ ⟨s, hs⟩
private theorem off8' : ∀ (g : Fin k0_t1_loop.trips) (i : Fin k0_t2_loop.trips) , ∀ kk : Fin 4, ∀ s : Fin 16, k0_off8 g i (BitVec.ofNat 32 kk.val) (BitVec.ofNat 32 s.val) = ![4 * g.val + kk.val, 9 * (16 * i.val + s.val), 0] := by decide +kernel
theorem off8 (g : Fin k0_t1_loop.trips) (i : Fin k0_t2_loop.trips) (kk : ℕ) (hkk : kk < 4) (s : ℕ) (hs : s < 16) : k0_off8 g i (BitVec.ofNat 32 kk) (BitVec.ofNat 32 s) = ![4 * g.val + kk, 9 * (16 * i.val + s), 0] := off8' g i ⟨kk, hkk⟩ ⟨s, hs⟩
private theorem off3' : ∀ (i : Fin k0_t2_loop.trips) , ∀ s : Fin 16, k0_off3 i (BitVec.ofNat 32 s.val) = ![0, 16 * i.val + s.val, 0, 0] := by decide +kernel
theorem off3 (i : Fin k0_t2_loop.trips) (s : ℕ) (hs : s < 16) : k0_off3 i (BitVec.ofNat 32 s) = ![0, 16 * i.val + s, 0, 0] := off3' i ⟨s, hs⟩
private theorem off4' : ∀ (i : Fin k0_t2_loop.trips) , ∀ s : Fin 16, k0_off4 i (BitVec.ofNat 32 s.val) = ![0, 16 * i.val + s.val, 8, 0] := by decide +kernel
theorem off4 (i : Fin k0_t2_loop.trips) (s : ℕ) (hs : s < 16) : k0_off4 i (BitVec.ofNat 32 s) = ![0, 16 * i.val + s, 8, 0] := off4' i ⟨s, hs⟩
private theorem off5' : ∀ (i : Fin k0_t2_loop.trips) , ∀ s : Fin 16, k0_off5 i (BitVec.ofNat 32 s.val) = ![1, 16 * i.val + s.val, 0, 0] := by decide +kernel
theorem off5 (i : Fin k0_t2_loop.trips) (s : ℕ) (hs : s < 16) : k0_off5 i (BitVec.ofNat 32 s) = ![1, 16 * i.val + s, 0, 0] := off5' i ⟨s, hs⟩
private theorem off6' : ∀ (i : Fin k0_t2_loop.trips) , ∀ s : Fin 16, k0_off6 i (BitVec.ofNat 32 s.val) = ![1, 16 * i.val + s.val, 8, 0] := by decide +kernel
theorem off6 (i : Fin k0_t2_loop.trips) (s : ℕ) (hs : s < 16) : k0_off6 i (BitVec.ofNat 32 s) = ![1, 16 * i.val + s, 8, 0] := off6' i ⟨s, hs⟩

/-- A row of a token-major scratch broadcast over eight sublanes, at an index. -/
theorem rdRow (arg : Memref sig .tc .vmem S12x128x128 .f32) (X : BufTy.Contents (Elt F) arg.view.ty) (g : Fin k0_t1_loop.trips) (i : Fin k0_t2_loop.trips) (kk s : ℕ) (hkk : kk < 4) (hs : s < 16) (q : Fin 24) (hq : q.val / 2 = 4 * g.val + kk)
    (inb) (h : S1x8x128.ShapeCasts S8x128) (r : Fin 8) (l : Fin 128) :
    shapeCast S8x128 (View.readAt (Elt F) arg.view { off := k0_off7 g i (BitVec.ofNat 32 kk) (BitVec.ofNat 32 s), size := S1x8x128.size, stride := ![1, 0, 1], inb := inb } X) h (ix2 r l)
      = arg.view.read (Elt F) X (ix3 (blk q) (tm (16 * i.val + s)) l) := by
  have hi : i.val < 8 := Nat.lt_of_lt_of_le i.isLt k0_t2_abs.2.1
  have e := off7 g i kk hkk s hs
  rw [shapeCast_1ab_ab_apply, View.readAt_apply]
  refine congrArg _ (funext fun a => Fin.ext ?_)
  rw [LoadRect.idx_apply]
  fin_cases a
  · show k0_off7 g i (BitVec.ofNat 32 kk) (BitVec.ofNat 32 s) 0 + 1 * 0 = q.val / 2
    rw [e, hq]; rfl
  · show k0_off7 g i (BitVec.ofNat 32 kk) (BitVec.ofNat 32 s) 1 + 0 * r.val = (16 * i.val + s) % 128
    rw [e, Nat.mod_eq_of_lt (by omega), Nat.zero_mul]; rfl
  · show k0_off7 g i (BitVec.ofNat 32 kk) (BitVec.ofNat 32 s) 2 + 1 * l.val = l.val
    rw [e, Nat.one_mul]; exact Nat.zero_add _

/-- A state tile of a scratch of 24 tiles, at an index. -/
theorem rdTile (arg : Memref sig .tc .vmem S24x8x128 .f32) (X : BufTy.Contents (Elt F) arg.view.ty) (g : Fin k0_t1_loop.trips) (j : ℕ) (hj : j < 8)
    (q : Fin 24) (hq : q.val = 8 * g.val + j) (inb) (h : S1x8x128.ShapeCasts S8x128) (r : Fin 8) (l : Fin 128) :
    shapeCast S8x128 (View.readAt (Elt F) arg.view (Rect.unit (s := S24x8x128) (k0_off2 g (BitVec.ofNat 32 j)) S1x8x128.size inb).toLoadRect X) h (ix2 r l)
      = arg.view.read (Elt F) X (ix3 q r l) := by
  have e := k0_off2_eq g ⟨j, hj⟩
  simp only at e
  rw [shapeCast_1ab_ab_apply, View.readAt_apply]
  refine congrArg _ (funext fun a => Fin.ext ?_)
  rw [LoadRect.idx_apply]
  fin_cases a
  · show k0_off2 g (BitVec.ofNat 32 j) 0 + 1 * 0 = q.val
    rw [e, hq]; rfl
  · show k0_off2 g (BitVec.ofNat 32 j) 1 + 1 * r.val = r.val
    rw [e, Nat.one_mul]; exact Nat.zero_add _
  · show k0_off2 g (BitVec.ofNat 32 j) 2 + 1 * l.val = l.val
    rw [e, Nat.one_mul]; exact Nat.zero_add _

/-- Eight rows of a token's table of coefficients, at an index. -/
theorem rdTab (arg : Memref sig .tc .vmem S2x128x16x128 .f32) (X : BufTy.Contents (Elt F) arg.view.ty) (off : Fin 4 → ℕ) (m : Fin 2) (t : ℕ) (ht : t < 128) (o : ℕ)
    (e : off = ![m.val, t, o, 0])
    (inb) (h : S1x1x8x128.ShapeCasts S8x128) (r : Fin 8) (n : Fin 16) (hn : n.val = o + r.val) (l : Fin 128) :
    shapeCast S8x128 (View.readAt (Elt F) arg.view (Rect.unit (s := S2x128x16x128) off S1x1x8x128.size inb).toLoadRect X) h (ix2 r l)
      = arg.view.read (Elt F) X (ix4 m (tm t) n l) := by
  subst e
  rw [shapeCast_apply (t := S8x128) _ h (ix2 r l) (ix4 (0 : Fin 1) (0 : Fin 1) r l) (by
    rw [Shape.rowMajor_val_four, Shape.rowMajor_val_two]; simp), View.readAt_apply]
  refine congrArg _ (funext fun a => Fin.ext ?_)
  rw [LoadRect.idx_apply]
  fin_cases a
  · show m.val + 1 * 0 = m.val
    rfl
  · show t + 1 * 0 = t % 128
    rw [Nat.mod_eq_of_lt ht]; rfl
  · show o + 1 * r.val = n.val
    omega
  · show 0 + 1 * l.val = l.val
    omega

end Cert.Proof.KernelIdeal

end
-- ==== Proof.TripSteps.lean ====
module

public import proofs.«01_k».proof.Proof.Gen.KernelIdeal.Loops
public import proofs.«01_k».proof.Proof.TripReads

@[expose] public section

set_option maxRecDepth 8192
set_option maxHeartbeats 2000000

noncomputable section

namespace Cert.Proof.KernelIdeal

open Cert.KernelIdeal Cert.KernelIdeal.Gen
open Idealize.ShloMosaic Idealize.ShloMosaic.ValueIdx Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

section Steps

variable (arg16 arg17 : Memref sig .tc .vmem S12x128x128 .f32) (arg20 arg21 : Memref sig .tc .vmem S24x8x128 .f32) (arg22 : Memref sig .tc .vmem S2x128x16x128 .f32)
  (X16 : BufTy.Contents (Elt F) arg16.view.ty) (X17 : BufTy.Contents (Elt F) arg17.view.ty) (X21 : BufTy.Contents (Elt F) arg21.view.ty) (X22 : BufTy.Contents (Elt F) arg22.view.ty)
  (h0 : Fin 24 → Fin 8 → Fin 128 → F .f32)

/-- The state after `t` tokens of the chunk, from what the scratch buffers hold. -/
abbrev hX (t : ℕ) : Fin 24 → Fin 8 → Fin 128 → F .f32 :=
  hAt (arg16.view.read (Elt F) X16) (arg17.view.read (Elt F) X17) (arg21.view.read (Elt F) X21) (arg22.view.read (Elt F) X22) h0 t
/-- The partial sums of token `t`, from what the scratch buffers hold. -/
abbrev pX (t : ℕ) : Fin 12 → Fin 8 → Fin 128 → F .f32 :=
  pAt (arg16.view.read (Elt F) X16) (arg17.view.read (Elt F) X17) (arg21.view.read (Elt F) X21) (arg22.view.read (Elt F) X22) h0 t

/-- Tile `8 g + j` of the state after `16 i + s` tokens, as a vector. -/
def hV (g : Fin k0_t1_loop.trips) (i : Fin k0_t2_loop.trips) (s j : ℕ) : FVec F S8x128 .f32 :=
  fun x => hX arg16 arg17 arg21 arg22 X16 X17 X21 X22 h0 (16 * i.val + s) ⟨(8 * g.val + j) % 24, Nat.mod_lt _ (by decide)⟩ (x 0) (x 1)

/-- One token, one state tile. -/
theorem step (g : Fin k0_t1_loop.trips) (i : Fin k0_t2_loop.trips) (kk hf j s : ℕ) (hkk : kk < 4) (hhf : hf < 2) (hj : j = 2 * kk + hf) (hs : s < 16)
    (off : Fin 4 → ℕ) (ho : off = ![0, 16 * i.val + s, 8 * hf, 0])
    (hv : FVec F S8x128 .f32) (ih : hv = hV arg16 arg17 arg21 arg22 X16 X17 X21 X22 h0 g i s j) (inb1 inb2 inb3 inb4) (c1 c2 c3 : S1x8x128.ShapeCasts S8x128) (c4 : S1x1x8x128.ShapeCasts S8x128) :
    addf (mulf (exp2 (mulf
        (shapeCast S8x128 (View.readAt (Elt F) arg16.view { off := k0_off7 g i (BitVec.ofNat 32 kk) (BitVec.ofNat 32 s), size := S1x8x128.size, stride := ![1, 0, 1], inb := inb1 } X16) c1)
        (shapeCast S8x128 (View.readAt (Elt F) arg21.view (Rect.unit (s := S24x8x128) (k0_off2 g (BitVec.ofNat 32 j)) S1x8x128.size inb2).toLoadRect X21) c2))) hv)
      (mulf
        (shapeCast S8x128 (View.readAt (Elt F) arg17.view { off := k0_off7 g i (BitVec.ofNat 32 kk) (BitVec.ofNat 32 s), size := S1x8x128.size, stride := ![1, 0, 1], inb := inb3 } X17) c3)
        (shapeCast S8x128 (View.readAt (Elt F) arg22.view (Rect.unit (s := S2x128x16x128) off S1x1x8x128.size inb4).toLoadRect X22) c4))
    = hV arg16 arg17 arg21 arg22 X16 X17 X21 X22 h0 g i (s + 1) j := by
  have hg : g.val < 3 := Nat.lt_of_lt_of_le g.isLt k0_t1_abs.2.1
  have hi : i.val < 8 := Nat.lt_of_lt_of_le i.isLt k0_t2_abs.2.1
  have hm : (8 * g.val + j) % 24 = 8 * g.val + j := Nat.mod_eq_of_lt (by omega)
  subst ih
  funext x
  obtain ⟨r, l, rfl⟩ : ∃ (r : Fin 8) (l : Fin 128), x = ix2 r l := ⟨x 0, x 1, eq_ix2 x⟩
  have e1 := rdRow arg16 X16 g i kk s hkk hs ⟨(8 * g.val + j) % 24, Nat.mod_lt _ (by decide)⟩ (by simp only [hm]; omega) inb1 c1 r l
  have e2 := rdTile arg21 X21 g j (by omega) ⟨(8 * g.val + j) % 24, Nat.mod_lt _ (by decide)⟩ hm inb2 c2 r l
  have e3 := rdRow arg17 X17 g i kk s hkk hs ⟨(8 * g.val + j) % 24, Nat.mod_lt _ (by decide)⟩ (by simp only [hm]; omega) inb3 c3 r l
  have e4 := rdTab arg22 X22 off 0 (16 * i.val + s) (by omega) (8 * hf) ho inb4 c4 r
    (st ⟨(8 * g.val + j) % 24, Nat.mod_lt _ (by decide)⟩ r) (by simp only [st, hm]; omega) l
  exact congrArg₂ FloatOps.addf
    (congrArg₂ FloatOps.mulf (congrArg FloatOps.exp2 (congrArg₂ FloatOps.mulf e1 e2)) rfl)
    (congrArg₂ FloatOps.mulf e3 e4)

/-- The state tile that the trip starts from. -/
theorem start (f20 : BufTy.Contents (Elt F) arg20.view.ty) (g : Fin k0_t1_loop.trips) (i : Fin k0_t2_loop.trips) (j : ℕ) (hj : j < 8)
    (hf : ∀ q r l, q.val / 8 = g.val → arg20.view.read (Elt F) f20 (ix3 q r l) = hX arg16 arg17 arg21 arg22 X16 X17 X21 X22 h0 (16 * i.val) q r l)
    (inb) (c1 : S1x8x128.ShapeCasts S8x128) :
    shapeCast S8x128 (View.readAt (Elt F) arg20.view (Rect.unit (s := S24x8x128) (k0_off2 g (BitVec.ofNat 32 j)) S1x8x128.size inb).toLoadRect f20) c1
      = hV arg16 arg17 arg21 arg22 X16 X17 X21 X22 h0 g i 0 j := by
  have hg : g.val < 3 := Nat.lt_of_lt_of_le g.isLt k0_t1_abs.2.1
  have hm : (8 * g.val + j) % 24 = 8 * g.val + j := Nat.mod_eq_of_lt (by omega)
  funext x
  obtain ⟨r, l, rfl⟩ : ∃ (r : Fin 8) (l : Fin 128), x = ix2 r l := ⟨x 0, x 1, eq_ix2 x⟩
  rw [rdTile arg20 f20 g j hj ⟨(8 * g.val + j) % 24, Nat.mod_lt _ (by decide)⟩ hm, hf _ _ _ (by simp only [hm]; omega)]
  rfl

/-- The stored partial sums of one token in one channel block. -/
theorem partials (g : Fin k0_t1_loop.trips) (i : Fin k0_t2_loop.trips) (kk j0 j1 s : ℕ) (hkk : kk < 4) (hj0 : j0 = 2 * kk) (hj1 : j1 = 2 * kk + 1) (hs : s < 16)
    (va vb : FVec F S8x128 .f32) (ia : va = hV arg16 arg17 arg21 arg22 X16 X17 X21 X22 h0 g i (s + 1) j0)
    (ib : vb = hV arg16 arg17 arg21 arg22 X16 X17 X21 X22 h0 g i (s + 1) j1) (inb1 inb2) (c1 c2 : S1x1x8x128.ShapeCasts S8x128) (c3 : S8x128.ShapeCasts S1x8x128)
    (k : Fin 12) (hk : k.val = 4 * g.val + kk) (z : Fin 1) (r : Fin 8) (l : Fin 128) :
    shapeCast S1x8x128 (addf
      (mulf va (shapeCast S8x128 (View.readAt (Elt F) arg22.view (Rect.unit (s := S2x128x16x128) (k0_off5 i (BitVec.ofNat 32 s)) S1x1x8x128.size inb1).toLoadRect X22) c1))
      (mulf vb (shapeCast S8x128 (View.readAt (Elt F) arg22.view (Rect.unit (s := S2x128x16x128) (k0_off6 i (BitVec.ofNat 32 s)) S1x1x8x128.size inb2).toLoadRect X22) c2))) c3 (ix3 z r l)
    = pX arg16 arg17 arg21 arg22 X16 X17 X21 X22 h0 (16 * i.val + s) k r l := by
  have hg : g.val < 3 := Nat.lt_of_lt_of_le g.isLt k0_t1_abs.2.1
  have hi : i.val < 8 := Nat.lt_of_lt_of_le i.isLt k0_t2_abs.2.1
  subst ia; subst ib
  have hz : z = 0 := Subsingleton.elim _ _
  subst hz
  rw [shapeCast_ab_1ab_apply]
  have t0 : (⟨(8 * g.val + j0) % 24, Nat.mod_lt _ (by decide)⟩ : Fin 24) = tile k 0 := Fin.ext (by simp only [tile]; omega)
  have t1 : (⟨(8 * g.val + j1) % 24, Nat.mod_lt _ (by decide)⟩ : Fin 24) = tile k 1 := Fin.ext (by simp only [tile]; omega)
  have e4 := rdTab arg22 X22 _ 1 (16 * i.val + s) (by omega) 0 (off5 i s hs) inb1 c1 r
    (st (tile k 0) r) (by simp only [st, tile]; omega) l
  have e5 := rdTab arg22 X22 _ 1 (16 * i.val + s) (by omega) 8 (off6 i s hs) inb2 c2 r
    (st (tile k 1) r) (by simp only [st, tile]; omega) l
  refine congrArg₂ FloatOps.addf (congrArg₂ FloatOps.mulf ?_ e4) (congrArg₂ FloatOps.mulf ?_ e5)
  · show hX arg16 arg17 arg21 arg22 X16 X17 X21 X22 h0 (16 * i.val + (s + 1)) _ r l = _
    rw [t0]; rfl
  · show hX arg16 arg17 arg21 arg22 X16 X17 X21 X22 h0 (16 * i.val + (s + 1)) _ r l = _
    rw [t1]; rfl

end Steps

end Cert.Proof.KernelIdeal

end
-- ==== Proof.TripPieces.lean ====
module

public import proofs.«01_k».proof.Proof.Gen.KernelIdeal.Loops
public import proofs.«01_k».proof.Proof.TripSteps
public import Idealize.ShloMosaic.Lib.WritesUnit

@[expose] public section

set_option maxRecDepth 8192
set_option maxHeartbeats 2000000

noncomputable section

namespace Cert.Proof.KernelIdeal

open Cert.KernelIdeal Cert.KernelIdeal.Gen
open Idealize.ShloMosaic Idealize.ShloMosaic.ValueIdx Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

/-- A row of the partial-sum buffer: row `r` of token `t`, nine rows apart. -/
def prow (t : Fin 128) (r : Fin 8) : Fin 1152 := ⟨9 * t.val + r.val, by omega⟩

private theorem off2' : ∀ (g : Fin k0_t1_loop.trips), ∀ j : Fin 8, k0_off2 g (BitVec.ofNat 32 j.val) = ![8 * g.val + j.val, 0, 0] := by decide +kernel
theorem off2 (g : Fin k0_t1_loop.trips) (j : ℕ) (hj : j < 8) : k0_off2 g (BitVec.ofNat 32 j) = ![8 * g.val + j, 0, 0] := off2' g ⟨j, hj⟩

section Pieces

variable (arg16 arg17 : Memref sig .tc .vmem S12x128x128 .f32) (arg21 : Memref sig .tc .vmem S24x8x128 .f32) (arg22 : Memref sig .tc .vmem S2x128x16x128 .f32)
  (X16 : BufTy.Contents (Elt F) arg16.view.ty) (X17 : BufTy.Contents (Elt F) arg17.view.ty) (X21 : BufTy.Contents (Elt F) arg21.view.ty) (X22 : BufTy.Contents (Elt F) arg22.view.ty)
  (h0 : Fin 24 → Fin 8 → Fin 128 → F .f32) (arg19 : Memref sig .tc .vmem S12x1152x128 .f32) (arg20 : Memref sig .tc .vmem S24x8x128 .f32)

/-- After `n` of the trip's 64 stores of partial sums: those are there, and the rows of all other tokens and blocks are as before. -/
def PInv (g : Fin k0_t1_loop.trips) (i : Fin k0_t2_loop.trips) (f19 : BufTy.Contents (Elt F) arg19.view.ty) (n : ℕ) (f : BufTy.Contents (Elt F) arg19.view.ty) : Prop :=
  (∀ (k : Fin 12) (t : Fin 128) (r : Fin 8) (l : Fin 128), k.val / 4 = g.val → t.val / 16 = i.val → 4 * (t.val % 16) + k.val % 4 < n →
    arg19.view.read (Elt F) f (ix3 k (prow t r) l) = pX arg16 arg17 arg21 arg22 X16 X17 X21 X22 h0 t.val k r l)
  ∧ ∀ (k : Fin 12) (b : Fin 1152) (l : Fin 128), ¬ (k.val / 4 = g.val ∧ b.val / 9 / 16 = i.val ∧ b.val % 9 < 8) →
    arg19.view.read (Elt F) f (ix3 k b l) = arg19.view.read (Elt F) f19 (ix3 k b l)

/-- After `n` of the trip's 8 stores of the state. -/
def HInv (g : Fin k0_t1_loop.trips) (i : Fin k0_t2_loop.trips) (f20 : BufTy.Contents (Elt F) arg20.view.ty) (n : ℕ) (f : BufTy.Contents (Elt F) arg20.view.ty) : Prop :=
  (∀ (q : Fin 24) (r : Fin 8) (l : Fin 128), q.val / 8 = g.val → q.val % 8 < n →
    arg20.view.read (Elt F) f (ix3 q r l) = hX arg16 arg17 arg21 arg22 X16 X17 X21 X22 h0 (16 * i.val + 16) q r l)
  ∧ ∀ (q : Fin 24) (r : Fin 8) (l : Fin 128), q.val / 8 ≠ g.val →
    arg20.view.read (Elt F) f (ix3 q r l) = arg20.view.read (Elt F) f20 (ix3 q r l)

theorem pnil (g : Fin k0_t1_loop.trips) (i : Fin k0_t2_loop.trips) (f19 : BufTy.Contents (Elt F) arg19.view.ty) :
    PInv arg16 arg17 arg21 arg22 X16 X17 X21 X22 h0 arg19 g i f19 0 (arg19.view.writes (Elt F) f19 []) := ⟨fun _ _ _ _ _ _ h => absurd h (by omega), fun _ _ _ _ => rfl⟩

theorem hnil (g : Fin k0_t1_loop.trips) (i : Fin k0_t2_loop.trips) (f20 : BufTy.Contents (Elt F) arg20.view.ty) :
    HInv arg16 arg17 arg21 arg22 X16 X17 X21 X22 h0 arg20 g i f20 0 (arg20.view.writes (Elt F) f20 []) := ⟨fun _ _ _ _ h => absurd h (by omega), fun _ _ _ _ => rfl⟩

theorem pcons (g : Fin k0_t1_loop.trips) (i : Fin k0_t2_loop.trips) (f19 : BufTy.Contents (Elt F) arg19.view.ty) (n kk s : ℕ) (hkk : kk < 4) (hs : s < 16) (hn : n = 4 * s + kk)
    (L : List (View.Piece (Elt F) S12x1152x128 .f32)) (inb) (w : (Rect.unit (s := S12x1152x128) (k0_off8 g i (BitVec.ofNat 32 kk) (BitVec.ofNat 32 s)) S1x8x128.size inb).shape.Idx → Elt F .f32)
    (hw : ∀ (k : Fin 12), k.val = 4 * g.val + kk → ∀ (z : Fin 1) (r : Fin 8) (l : Fin 128), w (ix3 z r l) = pX arg16 arg17 arg21 arg22 X16 X17 X21 X22 h0 (16 * i.val + s) k r l)
    (ih : PInv arg16 arg17 arg21 arg22 X16 X17 X21 X22 h0 arg19 g i f19 n (arg19.view.writes (Elt F) f19 L)) :
    PInv arg16 arg17 arg21 arg22 X16 X17 X21 X22 h0 arg19 g i f19 (n + 1) (arg19.view.writes (Elt F) f19 (⟨Rect.unit (s := S12x1152x128) (k0_off8 g i (BitVec.ofNat 32 kk) (BitVec.ofNat 32 s)) S1x8x128.size inb, w⟩ :: L)) := by
  have hg : g.val < 3 := Nat.lt_of_lt_of_le g.isLt k0_t1_abs.2.1
  have hi : i.val < 8 := Nat.lt_of_lt_of_le i.isLt k0_t2_abs.2.1
  have ho := off8 g i kk hkk s hs
  have miss : ∀ (k : Fin 12) (b : Fin 1152) (l : Fin 128), ¬ (k.val = 4 * g.val + kk ∧ b.val / 9 = 16 * i.val + s ∧ b.val % 9 < 8) →
      arg19.view.read (Elt F) (arg19.view.writes (Elt F) f19 (⟨Rect.unit (s := S12x1152x128) (k0_off8 g i (BitVec.ofNat 32 kk) (BitVec.ofNat 32 s)) S1x8x128.size inb, w⟩ :: L)) (ix3 k b l)
        = arg19.view.read (Elt F) (arg19.view.writes (Elt F) f19 L) (ix3 k b l) := by
    intro k b l hne
    by_cases hk : k.val = 4 * g.val + kk
    · refine View.read_writes_cons_unit_of_not_mem (v := arg19.view) (f := f19) inb w L _ ho (1 : Fin 3) ?_
      show b.val < 9 * (16 * i.val + s) ∨ 9 * (16 * i.val + s) + 8 ≤ b.val
      omega
    · refine View.read_writes_cons_unit_of_not_mem (v := arg19.view) (f := f19) inb w L _ ho (0 : Fin 3) ?_
      show k.val < 4 * g.val + kk ∨ 4 * g.val + kk + 1 ≤ k.val
      omega
  refine ⟨fun k t r l h1 h2 h3 => ?_, fun k b l h => ?_⟩
  · by_cases hh : k.val = 4 * g.val + kk ∧ t.val = 16 * i.val + s
    · rw [View.read_writes_cons_unit_of_mem (v := arg19.view) (f := f19) inb w L (ix3 k (prow t r) l) (ix3 (0 : Fin 1) r l) ho ?_]
      · rw [hw k hh.1, hh.2]
      · intro a
        match a with
        | ⟨0, _⟩ => exact hh.1
        | ⟨1, _⟩ => show 9 * t.val + r.val = 9 * (16 * i.val + s) + r.val; omega
        | ⟨2, _⟩ => exact (Nat.zero_add _).symm
    · rw [miss k (prow t r) l (by rintro ⟨h1, h2, -⟩; exact hh ⟨h1, by have : (9 * t.val + r.val) / 9 = 16 * i.val + s := h2; omega⟩)]
      exact ih.1 k t r l h1 h2 (by omega)
  · rw [miss k b l (by omega)]
    exact ih.2 k b l h

theorem hcons (g : Fin k0_t1_loop.trips) (i : Fin k0_t2_loop.trips) (f20 : BufTy.Contents (Elt F) arg20.view.ty) (n : ℕ) (hn : n < 8)
    (L : List (View.Piece (Elt F) S24x8x128 .f32)) (inb) (c : S8x128.ShapeCasts S1x8x128) (w : FVec F S8x128 .f32)
    (hw : w = hV arg16 arg17 arg21 arg22 X16 X17 X21 X22 h0 g i 16 n)
    (ih : HInv arg16 arg17 arg21 arg22 X16 X17 X21 X22 h0 arg20 g i f20 n (arg20.view.writes (Elt F) f20 L)) :
    HInv arg16 arg17 arg21 arg22 X16 X17 X21 X22 h0 arg20 g i f20 (n + 1) (arg20.view.writes (Elt F) f20 (⟨Rect.unit (s := S24x8x128) (k0_off2 g (BitVec.ofNat 32 n)) S1x8x128.size inb, shapeCast S1x8x128 w c⟩ :: L)) := by
  have hg : g.val < 3 := Nat.lt_of_lt_of_le g.isLt k0_t1_abs.2.1
  have ho := off2 g n hn
  have miss : ∀ (q : Fin 24) (r : Fin 8) (l : Fin 128), q.val ≠ 8 * g.val + n →
      arg20.view.read (Elt F) (arg20.view.writes (Elt F) f20 (⟨Rect.unit (s := S24x8x128) (k0_off2 g (BitVec.ofNat 32 n)) S1x8x128.size inb, shapeCast S1x8x128 w c⟩ :: L)) (ix3 q r l)
        = arg20.view.read (Elt F) (arg20.view.writes (Elt F) f20 L) (ix3 q r l) := by
    intro q r l hne
    refine View.read_writes_cons_unit_of_not_mem (v := arg20.view) (f := f20) inb _ L _ ho (0 : Fin 3) ?_
    show q.val < 8 * g.val + n ∨ 8 * g.val + n + 1 ≤ q.val
    omega
  refine ⟨fun q r l h1 h2 => ?_, fun q r l h => ?_⟩
  · by_cases hh : q.val = 8 * g.val + n
    · rw [View.read_writes_cons_unit_of_mem (v := arg20.view) (f := f20) inb _ L (ix3 q r l) (ix3 (0 : Fin 1) r l) ho ?_]
      · rw [shapeCast_ab_1ab_apply, hw]
        have : (⟨(8 * g.val + n) % 24, Nat.mod_lt _ (by decide)⟩ : Fin 24) = q := Fin.ext (by simp only; omega)
        show hX arg16 arg17 arg21 arg22 X16 X17 X21 X22 h0 _ _ _ _ = _
        rw [this]
      · intro a
        match a with
        | ⟨0, _⟩ => exact hh
        | ⟨1, _⟩ => exact (Nat.zero_add _).symm
        | ⟨2, _⟩ => exact (Nat.zero_add _).symm
    · rw [miss q r l hh]
      exact ih.1 q r l h1 (by omega)
  · rw [miss q r l (by omega)]
    exact ih.2 q r l h

end Pieces

end Cert.Proof.KernelIdeal

end
-- ==== Proof.Trip.lean ====
module

public import proofs.«01_k».proof.Proof.Gen.KernelIdeal.Loops
public import proofs.«01_k».proof.Proof.TripPieces

@[expose] public section

set_option maxRecDepth 8192
set_option maxHeartbeats 4000000

noncomputable section

namespace Cert.Proof.KernelIdeal

open Cert.KernelIdeal Cert.KernelIdeal.Gen
open Idealize.ShloMosaic Idealize.ShloMosaic.ValueIdx Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

local notation "𝕄G" => MT nD τ sig Unit (Elt F) ℕ (UR sig nD τ) ℕ

/-- One trip's resources: what the region reads (arg16, arg17, arg21, arg22) at its contents, what
   it writes (arg19, arg20) at any. -/
abbrev Trip_k0_t2 (c : Dev nD) (arg16 : Memref sig .tc .vmem S12x128x128 .f32) (arg17 : Memref sig .tc .vmem S12x128x128 .f32) (arg21 : Memref sig .tc .vmem S24x8x128 .f32) (arg22 : Memref sig .tc .vmem S2x128x16x128 .f32) (arg19 : Memref sig .tc .vmem S12x1152x128 .f32) (arg20 : Memref sig .tc .vmem S24x8x128 .f32) (X_arg16 : BufTy.Contents (Elt F) arg16.view.ty) (X_arg17 : BufTy.Contents (Elt F) arg17.view.ty) (X_arg21 : BufTy.Contents (Elt F) arg21.view.ty) (X_arg22 : BufTy.Contents (Elt F) arg22.view.ty) (f_arg19 : BufTy.Contents (Elt F) arg19.view.ty) (f_arg20 : BufTy.Contents (Elt F) arg20.view.ty) : sProp 𝕄G :=
  iprop((arg16.view.loc (c : Thread nD τ) ↦[arg16.view.set]{fullShare} X_arg16) ∗ (arg17.view.loc (c : Thread nD τ) ↦[arg17.view.set]{fullShare} X_arg17) ∗ (arg21.view.loc (c : Thread nD τ) ↦[arg21.view.set]{fullShare} X_arg21) ∗ (arg22.view.loc (c : Thread nD τ) ↦[arg22.view.set]{fullShare} X_arg22) ∗ (arg19.view.loc (c : Thread nD τ) ↦[arg19.view.set]{fullShare} f_arg19) ∗ (arg20.view.loc (c : Thread nD τ) ↦[arg20.view.set]{fullShare} f_arg20))

variable (c : Dev nD) (i : grid0.Coords) (arg2 : Memref sig .tc .vmem S1x1536x128 .fp8e4m3) (harg2 : arg2.IsWhole) (arg3 : Memref sig .tc .vmem S3x128 .f32) (harg3 : arg3.IsWhole) (arg4 : Memref sig .tc .vmem S1x1536x128 .fp8e4m3) (harg4 : arg4.IsWhole) (arg5 : Memref sig .tc .vmem S3x128 .f32) (harg5 : arg5.IsWhole) (arg6 : Memref sig .tc .vmem S1x16x128 .fp8e4m3) (harg6 : arg6.IsWhole) (arg7 : Memref sig .tc .vmem S3x128 .f32) (harg7 : arg7.IsWhole) (arg8 : Memref sig .tc .vmem S1x16x128 .fp8e4m3) (harg8 : arg8.IsWhole) (arg9 : Memref sig .tc .vmem S3x128 .f32) (harg9 : arg9.IsWhole) (arg10 : Memref sig .tc .vmem S1x1536x128 .bf16) (harg10 : arg10.IsWhole) (arg11 : Memref sig .tc .vmem S16x1536 .f32) (harg11 : arg11.IsWhole) (arg12 : Memref sig .tc .vmem S12x128 .f32) (harg12 : arg12.IsWhole) (arg13 : Memref sig .tc .vmem S12x128 .f32) (harg13 : arg13.IsWhole) (arg14 : Memref sig .tc .vmem S1x1536x128 .bf16) (harg14 : arg14.IsWhole) (arg15 : Memref sig .tc .vmem S1x16x1536 .f32) (harg15 : arg15.IsWhole) (arg16 : Memref sig .tc .vmem S12x128x128 .f32) (harg16 : arg16.IsWhole) (arg17 : Memref sig .tc .vmem S12x128x128 .f32) (harg17 : arg17.IsWhole) (arg18 : Memref sig .tc .vmem S12x128x128 .f32) (harg18 : arg18.IsWhole) (arg19 : Memref sig .tc .vmem S12x1152x128 .f32) (harg19 : arg19.IsWhole) (arg20 : Memref sig .tc .vmem S24x8x128 .f32) (harg20 : arg20.IsWhole) (arg21 : Memref sig .tc .vmem S24x8x128 .f32) (harg21 : arg21.IsWhole) (arg22 : Memref sig .tc .vmem S2x128x16x128 .f32) (harg22 : arg22.IsWhole)
  (v14 : FVec F S128x128 .bf16) (v2048 : FVec F S128x128 .f32)
  (X16 : BufTy.Contents (Elt F) arg16.view.ty) (X17 : BufTy.Contents (Elt F) arg17.view.ty) (X21 : BufTy.Contents (Elt F) arg21.view.ty) (X22 : BufTy.Contents (Elt F) arg22.view.ty)
  (h0 : Fin 24 → Fin 8 → Fin 128 → F .f32)

/-- One trip of the token loop: sixteen tokens of one group of four channel blocks. -/
theorem trip (k0_t1 : Fin k0_t1_loop.trips) (v2609 : BitVec 32) (k : Fin k0_t2_loop.trips) (f19 : BufTy.Contents (Elt F) arg19.view.ty) (f20 : BufTy.Contents (Elt F) arg20.view.ty) (E : Set ℕ)
   (hf : ∀ q r l, q.val / 8 = k0_t1.val → arg20.view.read (Elt F) f20 (ix3 q r l) = hX arg16 arg17 arg21 arg22 X16 X17 X21 X22 h0 (16 * k.val) q r l) :
   Trip_k0_t2 (F := F) c arg16 arg17 arg21 arg22 arg19 arg20 X16 X17 X21 X22 f19 f20
   ⊢ wp frame (wpE (defs₀ (F := F)) Variants.none (c : Thread nD τ) none) E (k0_t2_body (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 v14 v2048 k0_t1 v2609 k PUnit.unit)
     (fun _ => iprop(∃ g19 g20, Trip_k0_t2 (F := F) c arg16 arg17 arg21 arg22 arg19 arg20 X16 X17 X21 X22 g19 g20 ∗ ⌜PInv arg16 arg17 arg21 arg22 X16 X17 X21 X22 h0 arg19 k0_t1 k f19 64 g19 ∧ HInv arg16 arg17 arg21 arg22 X16 X17 X21 X22 h0 arg20 k0_t1 k f20 8 g20⌝)) := by
  have hk : k.val < 8 := Nat.lt_of_lt_of_le k.isLt k0_t2_abs.2.1
  unfold k0_t2_body
  iintro ⟨HR_arg16, HR_arg17, HR_arg21, HR_arg22, HW_arg19, HW_arg20⟩
  sl_exec
  sl_step
  iexists _, _
  isplitl
  · isplitl [HR_arg16]; · iexact HR_arg16
    isplitl [HR_arg17]; · iexact HR_arg17
    isplitl [HR_arg21]; · iexact HR_arg21
    isplitl [HR_arg22]; · iexact HR_arg22
    isplitl [HW_arg19]; · iexact HW_arg19
    iexact HW_arg20
  ipureintro
  have s0 := fun (j : ℕ) (hj : j < 8) inb c1 => (start arg16 arg17 arg20 arg21 arg22 (X16 := X16) (X17 := X17) (X21 := X21) (X22 := X22) h0 f20 k0_t1 k j hj hf inb c1).symm
  have s1 := fun (s j : ℕ) (hs : s < 16) (hj : j < 8) off ho hv ih => fun i1 i2 i3 i4 c1 c2 c3 c4 => (step arg16 arg17 arg21 arg22 (X16 := X16) (X17 := X17) (X21 := X21) (X22 := X22) h0 k0_t1 k (j / 2) (j % 2) j s (by omega) (by omega) (by omega) hs off ho hv (Eq.symm ih) i1 i2 i3 i4 c1 c2 c3 c4).symm
  have hp := fun kk s hkk hs va vb ia ib i1 i2 c1 c2 c3 => partials arg16 arg17 arg21 arg22 (X16 := X16) (X17 := X17) (X21 := X21) (X22 := X22) h0 k0_t1 k kk (2 * kk) (2 * kk + 1) s hkk rfl rfl hs va vb (Eq.symm ia) (Eq.symm ib) i1 i2 c1 c2 c3
  refine ⟨?_, ?_⟩
  · iterate 64 (refine pcons arg16 arg17 arg21 arg22 X16 X17 X21 X22 h0 arg19 k0_t1 k f19 _ _ _ (by decide) (by decide) (by decide) _ _ _ (fun b hb z r l => hp _ _ (by decide) (by decide) _ _ ?_ ?_ _ _ _ _ _ b hb z r l) ?_; rotate_left 2)
    all_goals try exact pnil arg16 arg17 arg21 arg22 X16 X17 X21 X22 h0 arg19 k0_t1 k f19
    all_goals
      repeat' first
        | exact s0 _ (by decide) _ _
        | refine s1 _ _ (by decide) (by decide) _ (by first | exact off3 k _ (by decide) | exact off4 k _ (by decide)) _ ?_ _ _ _ _ _ _ _ _
  · iterate 8 (refine hcons arg16 arg17 arg21 arg22 X16 X17 X21 X22 h0 arg20 k0_t1 k f20 _ (by decide) _ _ _ _ (Eq.symm ?_) ?_; rotate_left 1)
    all_goals try exact hnil arg16 arg17 arg21 arg22 X16 X17 X21 X22 h0 arg20 k0_t1 k f20
    all_goals
      repeat' first
        | exact s0 _ (by decide) _ _
        | refine s1 _ _ (by decide) (by decide) _ (by first | exact off3 k _ (by decide) | exact off4 k _ (by decide)) _ ?_ _ _ _ _ _ _ _ _

end Cert.Proof.KernelIdeal

end
-- ==== Proof.ScanLoops.lean ====
module

public import proofs.«01_k».proof.Proof.Gen.KernelIdeal.Loops
public import proofs.«01_k».proof.Proof.Trip

@[expose] public section

set_option maxRecDepth 8192
set_option maxHeartbeats 4000000

noncomputable section

namespace Cert.Proof.KernelIdeal

open Cert.KernelIdeal Cert.KernelIdeal.Gen
open Idealize.ShloMosaic Idealize.ShloMosaic.ValueIdx Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

local notation "𝕄" => MT nD τ sig Unit (Elt F) ℕ (UR sig nD τ) ℕ

/-- Contents of a whole memref are what it reads. -/
theorem whole_ext {S : Shape} {e : EltTy} (arg : Memref sig .tc .vmem S e) (h : arg.IsWhole) (f f' : BufTy.Contents (Elt F) arg.view.ty)
    (hh : ∀ x, arg.view.read (Elt F) f x = arg.view.read (Elt F) f' x) : f = f' :=
  (h.eq_unread (X := arg.view.read (Elt F) f') (funext hh)).trans (h.eq_unread (X := arg.view.read (Elt F) f') rfl).symm

section

variable (arg16 arg17 : Memref sig .tc .vmem S12x128x128 .f32) (arg21 : Memref sig .tc .vmem S24x8x128 .f32) (arg22 : Memref sig .tc .vmem S2x128x16x128 .f32) (X16 : BufTy.Contents (Elt F) arg16.view.ty) (X17 : BufTy.Contents (Elt F) arg17.view.ty) (X21 : BufTy.Contents (Elt F) arg21.view.ty) (X22 : BufTy.Contents (Elt F) arg22.view.ty)
  (h0 : Fin 24 → Fin 8 → Fin 128 → F .f32)

/-- How many tokens a state tile has been through, before token group `i` of tile group `g`. -/
def cnt (g i q : ℕ) : ℕ := if q / 8 < g then 128 else if q / 8 = g then 16 * i else 0

theorem cnt_next (g q : ℕ) : cnt g 8 q = cnt (g + 1) 0 q := by unfold cnt; split_ifs <;> omega

/-- The state before token group `i` of tile group `g`. -/
def hG (g i : ℕ) : S24x8x128.Idx → F .f32 := fun x => hX arg16 arg17 arg21 arg22 X16 X17 X21 X22 h0 (cnt g i (x 0).val) (x 0) (x 1) (x 2)

theorem hG_next (g : ℕ) : hG arg16 arg17 arg21 arg22 X16 X17 X21 X22 h0 g 8 = hG arg16 arg17 arg21 arg22 X16 X17 X21 X22 h0 (g + 1) 0 := by
  funext x; unfold hG; rw [cnt_next]

/-- The partial sums before token group `i` of tile group `g`, over `p0`. -/
def pG (p0 : S12x1152x128.Idx → F .f32) (g i : ℕ) : S12x1152x128.Idx → F .f32 := fun x =>
  if (x 1).val % 9 < 8 ∧ ((x 0).val / 4 < g ∨ (x 0).val / 4 = g ∧ (x 1).val / 9 / 16 < i) then
    pX arg16 arg17 arg21 arg22 X16 X17 X21 X22 h0 ((x 1).val / 9) (x 0) ⟨(x 1).val % 9 % 8, Nat.mod_lt _ (by decide)⟩ (x 2)
  else p0 x

theorem pG_next (p0 : S12x1152x128.Idx → F .f32) (g : ℕ) : pG arg16 arg17 arg21 arg22 X16 X17 X21 X22 h0 p0 g 8 = pG arg16 arg17 arg21 arg22 X16 X17 X21 X22 h0 p0 (g + 1) 0 := by
  funext x
  have h1 : (x 1).val < 1152 := (x 1).isLt
  unfold pG
  exact if_congr (by omega) rfl rfl

/-- Writing nothing before the first step, the whole of `w` after it. -/
def wl (S : Shape) (w : ℕ → S.Idx → F .f32) : ℕ → List (View.Piece (Elt F) S .f32)
  | 0 => []
  | k + 1 => [⟨Rect.unit (s := S) (fun _ => 0) S.size (fun a => (Nat.zero_add _).le), w (k + 1)⟩]

theorem read_wl {S : Shape} (arg : Memref sig .tc .vmem S .f32) (G : BufTy.Contents (Elt F) arg.view.ty) (w : ℕ → S.Idx → F .f32)
    (h : arg.view.read (Elt F) G = w 0) : ∀ k, arg.view.read (Elt F) (arg.view.writes (Elt F) G (wl S w k)) = w k
  | 0 => h
  | k + 1 => by
    funext x
    exact View.read_writes_cons_unit_of_mem (v := arg.view) (f := G) _ (w (k + 1)) [] x x rfl (fun a => (Nat.zero_add _).symm)

theorem wl_eq {S : Shape} (arg : Memref sig .tc .vmem S .f32) (ha : arg.IsWhole) (G : BufTy.Contents (Elt F) arg.view.ty) (w : ℕ → S.Idx → F .f32)
    (h : arg.view.read (Elt F) G = w 0) (k : ℕ) (f : BufTy.Contents (Elt F) arg.view.ty) (hf : arg.view.read (Elt F) f = w k) :
    f = arg.view.writes (Elt F) G (wl S w k) :=
  whole_ext arg ha _ _ fun x => (congrFun hf x).trans (congrFun (read_wl arg G w h k) x).symm

end

variable (c : Dev nD) (i : grid0.Coords) (arg2 : Memref sig .tc .vmem S1x1536x128 .fp8e4m3) (harg2 : arg2.IsWhole) (arg3 : Memref sig .tc .vmem S3x128 .f32) (harg3 : arg3.IsWhole) (arg4 : Memref sig .tc .vmem S1x1536x128 .fp8e4m3) (harg4 : arg4.IsWhole) (arg5 : Memref sig .tc .vmem S3x128 .f32) (harg5 : arg5.IsWhole) (arg6 : Memref sig .tc .vmem S1x16x128 .fp8e4m3) (harg6 : arg6.IsWhole) (arg7 : Memref sig .tc .vmem S3x128 .f32) (harg7 : arg7.IsWhole) (arg8 : Memref sig .tc .vmem S1x16x128 .fp8e4m3) (harg8 : arg8.IsWhole) (arg9 : Memref sig .tc .vmem S3x128 .f32) (harg9 : arg9.IsWhole) (arg10 : Memref sig .tc .vmem S1x1536x128 .bf16) (harg10 : arg10.IsWhole) (arg11 : Memref sig .tc .vmem S16x1536 .f32) (harg11 : arg11.IsWhole) (arg12 : Memref sig .tc .vmem S12x128 .f32) (harg12 : arg12.IsWhole) (arg13 : Memref sig .tc .vmem S12x128 .f32) (harg13 : arg13.IsWhole) (arg14 : Memref sig .tc .vmem S1x1536x128 .bf16) (harg14 : arg14.IsWhole) (arg15 : Memref sig .tc .vmem S1x16x1536 .f32) (harg15 : arg15.IsWhole) (arg16 : Memref sig .tc .vmem S12x128x128 .f32) (harg16 : arg16.IsWhole) (arg17 : Memref sig .tc .vmem S12x128x128 .f32) (harg17 : arg17.IsWhole) (arg18 : Memref sig .tc .vmem S12x128x128 .f32) (harg18 : arg18.IsWhole) (arg19 : Memref sig .tc .vmem S12x1152x128 .f32) (harg19 : arg19.IsWhole) (arg20 : Memref sig .tc .vmem S24x8x128 .f32) (harg20 : arg20.IsWhole) (arg21 : Memref sig .tc .vmem S24x8x128 .f32) (harg21 : arg21.IsWhole) (arg22 : Memref sig .tc .vmem S2x128x16x128 .f32) (harg22 : arg22.IsWhole)
  (v14 : FVec F S128x128 .bf16) (v2048 : FVec F S128x128 .f32)
  (X16 : BufTy.Contents (Elt F) arg16.view.ty) (X17 : BufTy.Contents (Elt F) arg17.view.ty) (X21 : BufTy.Contents (Elt F) arg21.view.ty) (X22 : BufTy.Contents (Elt F) arg22.view.ty)

set_option warn.classDefReducibility false in
/-- The token loop of one group of tiles, by the state and the partial sums it has reached. -/
def tokenLoop (h0 : Fin 24 → Fin 8 → Fin 128 → F .f32) (p0 : S12x1152x128.Idx → F .f32) (k0_t1 : Fin k0_t1_loop.trips) (v2609 : BitVec 32)
    (G19 : BufTy.Contents (Elt F) arg19.view.ty) (G20 : BufTy.Contents (Elt F) arg20.view.ty)
    (h19 : arg19.view.read (Elt F) G19 = pG arg16 arg17 arg21 arg22 X16 X17 X21 X22 h0 p0 k0_t1.val 0) (h20 : arg20.view.read (Elt F) G20 = hG arg16 arg17 arg21 arg22 X16 X17 X21 X22 h0 k0_t1.val 0) :
    LoopInvTy_k0_t2 (F := F) Unit ℕ (UR sig nD τ) ℕ Variants.none c none Set.univ i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 v14 v2048 k0_t1 v2609 where
  inv := fun k acc => iprop((arg16.view.loc (c : Thread nD τ) ↦[arg16.view.set]{fullShare} X16) ∗ (arg17.view.loc (c : Thread nD τ) ↦[arg17.view.set]{fullShare} X17) ∗ (arg21.view.loc (c : Thread nD τ) ↦[arg21.view.set]{fullShare} X21) ∗ (arg22.view.loc (c : Thread nD τ) ↦[arg22.view.set]{fullShare} X22)
    ∗ (∃ f, (arg19.view.loc (c : Thread nD τ) ↦[arg19.view.set]{fullShare} f) ∗ ⌜f = arg19.view.writes (Elt F) G19 (wl S12x1152x128 (pG arg16 arg17 arg21 arg22 X16 X17 X21 X22 h0 p0 k0_t1.val) k)⌝)
    ∗ (∃ f, (arg20.view.loc (c : Thread nD τ) ↦[arg20.view.set]{fullShare} f) ∗ ⌜f = arg20.view.writes (Elt F) G20 (wl S24x8x128 (hG arg16 arg17 arg21 arg22 X16 X17 X21 X22 h0 k0_t1.val) k)⌝))
  step := fun k acc => by
    have hg : k0_t1.val < 3 := Nat.lt_of_lt_of_le k0_t1.isLt k0_t1_abs.2.1
    have hk : k.val < 8 := Nat.lt_of_lt_of_le k.isLt k0_t2_abs.2.1
    iintro ⟨H16, H17, H21, H22, ⟨%f19, H19, %e19⟩, ⟨%f20, H20, %e20⟩⟩
    have r19 : arg19.view.read (Elt F) f19 = pG arg16 arg17 arg21 arg22 X16 X17 X21 X22 h0 p0 k0_t1.val k.val := by rw [e19]; exact read_wl arg19 G19 _ h19 k.val
    have r20 : arg20.view.read (Elt F) f20 = hG arg16 arg17 arg21 arg22 X16 X17 X21 X22 h0 k0_t1.val k.val := by rw [e20]; exact read_wl arg20 G20 _ h20 k.val
    iapply (wp_wand_r Idealize.ShloMosaic.frame (wpE (defs₀ (F := F)) Variants.none (c : Thread nD τ) none) Set.univ)
    isplitl [H16 H17 H21 H22 H19 H20]
    · iapply (trip c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 v14 v2048 X16 X17 X21 X22 h0 k0_t1 v2609 k f19 f20 Set.univ (fun q r l hq => by
        rw [r20]
        show hX arg16 arg17 arg21 arg22 X16 X17 X21 X22 h0 (cnt k0_t1.val k.val q.val) q r l = _
        rw [show cnt k0_t1.val k.val q.val = 16 * k.val by unfold cnt; split_ifs <;> omega]))
      isplitl [H16]; · iexact H16
      isplitl [H17]; · iexact H17
      isplitl [H21]; · iexact H21
      isplitl [H22]; · iexact H22
      isplitl [H19]; · iexact H19
      iexact H20
    · iintro %_ ⟨%g19, %g20, ⟨H16, H17, H21, H22, H19, H20⟩, %hpi⟩
      obtain ⟨hp, hh⟩ := hpi
      isplitl [H16]; · iexact H16
      isplitl [H17]; · iexact H17
      isplitl [H21]; · iexact H21
      isplitl [H22]; · iexact H22
      isplitl [H19]
      · iexists _; isplitl [H19]; · iexact H19
        ipureintro
        refine wl_eq arg19 harg19 G19 _ h19 (k.val + 1) _ (funext fun x => ?_)
        obtain ⟨b, t, l, rfl⟩ : ∃ b t l, x = ix3 b t l := ⟨x 0, x 1, x 2, eq_ix3 x⟩
        by_cases hc : b.val / 4 = k0_t1.val ∧ t.val / 9 / 16 = k.val ∧ t.val % 9 < 8
        · have ht : t = prow ⟨t.val / 9, by omega⟩ ⟨t.val % 9, hc.2.2⟩ := Fin.ext (by show t.val = 9 * (t.val / 9) + t.val % 9; omega)
          have := hp.1 b ⟨t.val / 9, by omega⟩ ⟨t.val % 9, hc.2.2⟩ l hc.1 hc.2.1 (by show 4 * (t.val / 9 % 16) + b.val % 4 < 64; omega)
          rw [← ht] at this
          rw [this]
          show _ = if _ then _ else _
          rw [if_pos ⟨hc.2.2, Or.inr ⟨hc.1, by show t.val / 9 / 16 < k.val + 1; omega⟩⟩]
          exact congrArg (fun r => pX arg16 arg17 arg21 arg22 X16 X17 X21 X22 h0 (t.val / 9) b r l) (Fin.ext (by show t.val % 9 = t.val % 9 % 8; omega))
        · rw [hp.2 b t l hc, r19]
          exact if_congr (by show (t.val % 9 < 8 ∧ (b.val / 4 < k0_t1.val ∨ b.val / 4 = k0_t1.val ∧ t.val / 9 / 16 < k.val)) ↔ (t.val % 9 < 8 ∧ (b.val / 4 < k0_t1.val ∨ b.val / 4 = k0_t1.val ∧ t.val / 9 / 16 < k.val + 1)); omega) rfl rfl
      · iexists _; isplitl [H20]; · iexact H20
        ipureintro
        refine wl_eq arg20 harg20 G20 _ h20 (k.val + 1) _ (funext fun x => ?_)
        obtain ⟨q, r, l, rfl⟩ : ∃ q r l, x = ix3 q r l := ⟨x 0, x 1, x 2, eq_ix3 x⟩
        by_cases hc : q.val / 8 = k0_t1.val
        · rw [hh.1 q r l hc (by omega)]
          show _ = hX arg16 arg17 arg21 arg22 X16 X17 X21 X22 h0 (cnt k0_t1.val (k.val + 1) q.val) q r l
          rw [show cnt k0_t1.val (k.val + 1) q.val = 16 * k.val + 16 by unfold cnt; split_ifs <;> omega]
        · rw [hh.2 q r l hc, r20]
          show hX arg16 arg17 arg21 arg22 X16 X17 X21 X22 h0 (cnt k0_t1.val k.val q.val) q r l = hX arg16 arg17 arg21 arg22 X16 X17 X21 X22 h0 (cnt k0_t1.val (k.val + 1) q.val) q r l
          rw [show cnt k0_t1.val (k.val + 1) q.val = cnt k0_t1.val k.val q.val by unfold cnt; split_ifs <;> omega]

set_option warn.classDefReducibility false in
/-- The loop over the groups of tiles. -/
@[sl_loop] def groupLoop (G19 : BufTy.Contents (Elt F) arg19.view.ty) (G20 : BufTy.Contents (Elt F) arg20.view.ty) :
    LoopInvTy_k0_t1 (F := F) Unit ℕ (UR sig nD τ) ℕ Variants.none c none Set.univ i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 v14 v2048 where
  inv := fun g acc => iprop((arg16.view.loc (c : Thread nD τ) ↦[arg16.view.set]{fullShare} X16) ∗ (arg17.view.loc (c : Thread nD τ) ↦[arg17.view.set]{fullShare} X17) ∗ (arg21.view.loc (c : Thread nD τ) ↦[arg21.view.set]{fullShare} X21) ∗ (arg22.view.loc (c : Thread nD τ) ↦[arg22.view.set]{fullShare} X22)
    ∗ (∃ f, (arg19.view.loc (c : Thread nD τ) ↦[arg19.view.set]{fullShare} f) ∗ ⌜f = arg19.view.writes (Elt F) G19 (wl S12x1152x128 (fun g => pG arg16 arg17 arg21 arg22 X16 X17 X21 X22 (fun q r l => arg20.view.read (Elt F) G20 (ix3 q r l)) (arg19.view.read (Elt F) G19) g 0) g)⌝)
    ∗ (∃ f, (arg20.view.loc (c : Thread nD τ) ↦[arg20.view.set]{fullShare} f) ∗ ⌜f = arg20.view.writes (Elt F) G20 (wl S24x8x128 (fun g => hG arg16 arg17 arg21 arg22 X16 X17 X21 X22 (fun q r l => arg20.view.read (Elt F) G20 (ix3 q r l)) g 0) g)⌝))
  step := fun g acc => by
    have b19 : arg19.view.read (Elt F) G19 = pG arg16 arg17 arg21 arg22 X16 X17 X21 X22 (fun q r l => arg20.view.read (Elt F) G20 (ix3 q r l)) (arg19.view.read (Elt F) G19) 0 0 := by
      funext x; exact (if_neg (by omega)).symm
    have b20 : arg20.view.read (Elt F) G20 = hG arg16 arg17 arg21 arg22 X16 X17 X21 X22 (fun q r l => arg20.view.read (Elt F) G20 (ix3 q r l)) 0 0 := by
      funext x
      unfold hG
      rw [show cnt 0 0 (x 0).val = 0 by unfold cnt; split_ifs <;> omega]
      exact congrArg _ (eq_ix3 x)
    unfold k0_t1_body
    iintro ⟨H16, H17, H21, H22, ⟨%f19, H19, %e19⟩, ⟨%f20, H20, %e20⟩⟩
    have r19 := (congrArg (arg19.view.read (Elt F)) e19).trans (read_wl arg19 G19 (fun g => pG arg16 arg17 arg21 arg22 X16 X17 X21 X22 (fun q r l => arg20.view.read (Elt F) G20 (ix3 q r l)) (arg19.view.read (Elt F) G19) g 0) b19 g.val)
    have r20 := (congrArg (arg20.view.read (Elt F)) e20).trans (read_wl arg20 G20 (fun g => hG arg16 arg17 arg21 arg22 X16 X17 X21 X22 (fun q r l => arg20.view.read (Elt F) G20 (ix3 q r l)) g 0) b20 g.val)
    let L := tokenLoop c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 v14 v2048 X16 X17 X21 X22 _ _ g (Scalar.muli (Scf.iv 0#32 1#32 g) 4#32) f19 f20 r19 r20
    sl_exec
    sl_step
    isplitl [H16]; · iexact H16
    isplitl [H17]; · iexact H17
    isplitl [H21]; · iexact H21
    isplitl [H22]; · iexact H22
    isplitl [H19]
    · iexists _; isplitl [H19]; · iexact H19
      ipureintro
      exact wl_eq arg19 harg19 G19 (fun g => pG arg16 arg17 arg21 arg22 X16 X17 X21 X22 (fun q r l => arg20.view.read (Elt F) G20 (ix3 q r l)) (arg19.view.read (Elt F) G19) g 0) b19 (g.val + 1) _ ((read_wl arg19 f19 (pG arg16 arg17 arg21 arg22 X16 X17 X21 X22 _ _ g.val) r19 8).trans (pG_next arg16 arg17 arg21 arg22 X16 X17 X21 X22 _ _ g.val))
    iexists _; isplitl [H20]; · iexact H20
    ipureintro
    exact wl_eq arg20 harg20 G20 (fun g => hG arg16 arg17 arg21 arg22 X16 X17 X21 X22 (fun q r l => arg20.view.read (Elt F) G20 (ix3 q r l)) g 0) b20 (g.val + 1) _ ((read_wl arg20 f20 (hG arg16 arg17 arg21 arg22 X16 X17 X21 X22 _ g.val) r20 8).trans (hG_next arg16 arg17 arg21 arg22 X16 X17 X21 X22 _ g.val))

end Cert.Proof.KernelIdeal

end
-- ==== Proof.Pieces.lean ====
/-
  Buffers that a program fills by a run of stores of one shape: the list of the stores as a recursion, what a read of the
  buffer gives at an element, and the stores that the kernel makes before its scan as such runs.
-/
module

public import proofs.«01_k».proof.Proof.ScanLoops

@[expose] public section

set_option maxRecDepth 16384

noncomputable section

namespace Cert.Proof.KernelIdeal

open Cert.KernelIdeal Cert.KernelIdeal.Gen
open Idealize.ShloMosaic Idealize.ShloMosaic.TcCoe Idealize.ShloMosaic.Tactic Idealize.ShloMosaic.ValueIdx

variable {F : FTy → Type} [FloatOps F] [Named F]

/-- The first `n` of `N` stores, the newest first: store `j` puts `w j` at offset `off j`. -/
def pieces {S : Shape} {sz : Fin S.rank → ℕ} (off : ℕ → Fin S.rank → ℕ) (N : ℕ) (inb : ∀ n, n < N → ∀ a, off n a + sz a ≤ S.size a)
    (w : ℕ → Vec F (Shape.mk S.rank sz) .f32) : (n : ℕ) → n ≤ N → List (View.Piece (Elt F) S .f32)
  | 0, _ => []
  | n + 1, h => ⟨Rect.unit (s := S) (off n) sz (inb n h), w n⟩ :: pieces off N inb w n (Nat.le_of_succ_le h)

/-- A read at an element of store `n` that no later store covers. -/
theorem read_pieces {S : Shape} {sz : Fin S.rank → ℕ} (arg : Memref sig .tc .vmem S .f32) (G : BufTy.Contents (Elt F) arg.view.ty)
    (off : ℕ → Fin S.rank → ℕ) (N : ℕ) (inb : ∀ n, n < N → ∀ a, off n a + sz a ≤ S.size a)
    (w : ℕ → Vec F (Shape.mk S.rank sz) .f32) (x : S.Idx) (n : ℕ) (y : (Shape.mk S.rank sz).Idx)
    (hx : ∀ a, (x a).val = off n a + (y a).val) (M : ℕ) (hM : M ≤ N) (hn : n < M)
    (later : ∀ j, n < j → j < M → ∃ a, (x a).val < off j a ∨ off j a + sz a ≤ (x a).val) :
    View.read (Elt F) arg.view (arg.view.writes (Elt F) G (pieces off N inb w M hM)) x = w n y := by
  induction M with
  | zero => omega
  | succ M ih =>
    rcases Nat.lt_or_ge n M with h | h
    · obtain ⟨a, ha⟩ := later M h (Nat.lt_succ_self M)
      exact (View.read_writes_cons_unit_of_not_mem (v := arg.view) (f := G) (inb M hM) (w M) _ x rfl a ha).trans
        (ih _ h fun j h1 h2 => later j h1 (by omega))
    · obtain rfl : n = M := by omega
      exact View.read_writes_cons_unit_of_mem (v := arg.view) (f := G) (inb n hM) (w n) _ x y rfl hx

/-- Reading 256 channels of a block. -/
def X256 (x : Vec F S1x1536x128 .fp8e4m3) (k : ℕ) : Vec F S1x256x128 .fp8e4m3 := fun y =>
  x (ix3 (0 : Fin 1) (⟨(256 * (k % 6) + (y 1).val), by have h : (y 1).val < 256 := (y 1).isLt; omega⟩ : Fin 1536) (y 2))

/-- Row `k` of an array of 12 rows. -/
def row12 (x : Vec F S12x128 .f32) (k : ℕ) : Vec F S1x128 .f32 := fun y => x (ix2 (⟨k % 12, Nat.mod_lt _ (by decide)⟩ : Fin 12) (y 1))

/-- Row `b` of an array of 3 rows. -/
def row3 (x : Vec F S3x128 .f32) (b : Fin 3) : Vec F S1x128 .f32 := fun y => x (ix2 b (y 1))

/-- The step size times the base-two logarithm of e, of channel block `k`, from the two blocks' inputs `X`. -/
def dTile (k : ℕ) (X : Vec F S1x256x128 .fp8e4m3) (s : Vec F S1x128 .f32) (b : Vec F S1x128 .f32) : Vec F S1x128x128 .f32 :=
  if k % 2 = 0 then k0_pay547 k0_pay489 (k0_pay493 s) (shapeCast S256x128 X shapeCasts_S1x256x128_S256x128) b
  else k0_pay552 (k0_pay493 s) (k0_pay544 k0_pay489 (shapeCast S256x128 X shapeCasts_S1x256x128_S256x128)) b

/-- `x` with the tokens as rows. -/
def xTok (X : Vec F S1x256x128 .fp8e4m3) : FVec F S128x256 .f32 := k0_pay544 k0_pay489 (shapeCast S256x128 X shapeCasts_S1x256x128_S256x128)

/-- The step size's tile times `x`. -/
def uTile (k : ℕ) (Xx X : Vec F S1x256x128 .fp8e4m3) (sx s : Vec F S1x128 .f32) (b : Vec F S1x128 .f32) : Vec F S1x128x128 .f32 :=
  if k % 2 = 0 then k0_pay548 k0_pay489 (k0_pay492 sx) (k0_pay493 s) (xTok Xx) (shapeCast S256x128 X shapeCasts_S1x256x128_S256x128) b
  else k0_pay553 (k0_pay492 sx) (k0_pay493 s) (xTok Xx) (k0_pay544 k0_pay489 (shapeCast S256x128 X shapeCasts_S1x256x128_S256x128)) b

theorem slices16 (t : Fin 128) : S16x128.Slices ![0, t.val] S16x1 := by revert t; decide +kernel

/-- One token's coefficients along the lanes. -/
def tTile (v : FVec F S16x128 .f32) (t : ℕ) : Vec F S1x1x16x128 .f32 :=
  shapeCast S1x1x16x128 (broadcastTo S16x128 (shapeCast S16x1 (extractStridedSlice S16x1 ![0, t % 128] v (slices16 ⟨t % 128, Nat.mod_lt _ (by decide)⟩)) shapeCasts_S16x1_S16x1)
    broadcasts_S16x1_S16x128) shapeCasts_S16x128_S1x1x16x128

/-- One tile of the decay rates. -/
def aTile (X : Vec F S8x128 .f32) : Vec F S1x8x128 .f32 := k0_pay5 X

/-- Eight states of 128 channels of the decay rates' logarithms. -/
def aRows (x : Vec F S16x1536 .f32) (n : ℕ) : Vec F S8x128 .f32 := fun y =>
  x (ix2 (⟨8 * (n % 2) + (y 0).val, by have h : (y 0).val < 8 := (y 0).isLt; omega⟩ : Fin 16)
    (⟨128 * (n / 2 % 12) + (y 1).val, by have h : (y 1).val < 128 := (y 1).isLt; omega⟩ : Fin 1536))

theorem inbRow : ∀ n, n < 12 → ∀ a, (![n, 0, 0] : Fin 3 → ℕ) a + S1x128x128.size a ≤ S12x128x128.size a := by decide
theorem inbTab : ∀ n, n < 256 → ∀ a, (![n % 2, n / 2, 0, 0] : Fin 4 → ℕ) a + S1x1x16x128.size a ≤ S2x128x16x128.size a := by decide +kernel
theorem inbA : ∀ n, n < 24 → ∀ a, (![n, 0, 0] : Fin 3 → ℕ) a + S1x8x128.size a ≤ S24x8x128.size a := by decide
theorem inbL : ∀ n, n < 24 → ∀ a, (![0, 8 * (n % 2), 128 * (n / 2)] : Fin 3 → ℕ) a + S1x8x128.size a ≤ S1x16x1536.size a := by decide +kernel
theorem inbX (n : ℕ) : ∀ a, (![0, 256 * (n % 6), 0] : Fin 3 → ℕ) a + S1x256x128.size a ≤ S1x1536x128.size a := by
  have h := Nat.mod_lt n (show 0 < 6 by decide)
  generalize n % 6 = k at h; revert k; decide +kernel
theorem inb12 (n : ℕ) : ∀ a, (![n % 12, 0] : Fin 2 → ℕ) a + S1x128.size a ≤ S12x128.size a := by
  have h := Nat.mod_lt n (show 0 < 12 by decide)
  generalize n % 12 = k at h; revert k; decide +kernel
theorem inbAr (n : ℕ) : ∀ a, (![8 * (n % 2), 128 * (n / 2 % 12)] : Fin 2 → ℕ) a + S8x128.size a ≤ S16x1536.size a := by
  have h := Nat.mod_lt n (show 0 < 2 by decide)
  have h' := Nat.mod_lt (n / 2) (show 0 < 12 by decide)
  generalize n % 2 = k at h; generalize n / 2 % 12 = k' at h'; revert k k'; decide +kernel

/-- What the kernel loads for channel blocks `2 k` and `2 k + 1`. -/
def rX (a : Memref sig .tc .vmem S1x1536x128 .fp8e4m3) (h : a.IsWhole) (x : Vec F S1x1536x128 .fp8e4m3) (k : ℕ) : Vec F S1x256x128 .fp8e4m3 :=
  View.readAt (Elt F) a.view (Rect.unit (s := S1x1536x128) ![0, 256 * (k % 6), 0] S1x256x128.size (inbX k)).toLoadRect (h.unread x)
/-- What it loads of row `k`. -/
def r12 (a : Memref sig .tc .vmem S12x128 .f32) (h : a.IsWhole) (x : Vec F S12x128 .f32) (k : ℕ) : Vec F S1x128 .f32 :=
  View.readAt (Elt F) a.view (Rect.unit (s := S12x128) ![k % 12, 0] S1x128.size (inb12 k)).toLoadRect (h.unread x)
/-- What it loads of the scales of its batch. -/
def r3 (i : grid0.Coords) (a : Memref sig .tc .vmem S3x128 .f32) (h : a.IsWhole) (x : Vec F S3x128 .f32) : Vec F S1x128 .f32 :=
  View.readAt (Elt F) a.view (Rect.unit (s := S3x128) (k0_off1 i) S1x128.size (k0_off1_inb i)).toLoadRect (h.unread x)
/-- What it loads of the decay rates' logarithms for tile `n`. -/
def rA (a : Memref sig .tc .vmem S16x1536 .f32) (h : a.IsWhole) (x : Vec F S16x1536 .f32) (n : ℕ) : Vec F S8x128 .f32 :=
  View.readAt (Elt F) a.view (Rect.unit (s := S16x1536) ![8 * (n % 2), 128 * (n / 2 % 12)] S8x128.size (inbAr n)).toLoadRect (h.unread x)

/-- A load of a block, at an element. -/
theorem rd_unit {S : Shape} {e : EltTy} (arg : Memref sig .tc .vmem S e) (f : BufTy.Contents (Elt F) arg.view.ty) (off sz : Fin S.rank → ℕ)
    (inb : ∀ a, off a + sz a ≤ S.size a) (y : (Shape.mk S.rank sz).Idx) (z : S.Idx) (h : ∀ a, (z a).val = off a + (y a).val) :
    View.readAt (Elt F) arg.view (Rect.unit (s := S) off sz inb).toLoadRect f y = View.read (Elt F) arg.view f z := by
  rw [View.readAt_apply]
  refine congrArg _ (funext fun a => Fin.ext ?_)
  rw [LoadRect.idx_apply, h a]
  show off a + 1 * (y a).val = _
  rw [Nat.one_mul]

theorem rX_eq (a : Memref sig .tc .vmem S1x1536x128 .fp8e4m3) (h : a.IsWhole) (x : Vec F S1x1536x128 .fp8e4m3) (k : ℕ) : rX a h x k = X256 x k :=
  funext fun y => (rd_unit a (h.unread x) _ _ (inbX k) y _ fun b => by
    fin_cases b
    · have h0 : (y 0).val < 1 := (y 0).isLt
      show 0 = 0 + (y 0).val
      omega
    · rfl
    · show (y 2).val = 0 + (y 2).val
      omega).trans (congrFun (h.read_unread x) _)

theorem r12_eq (a : Memref sig .tc .vmem S12x128 .f32) (h : a.IsWhole) (x : Vec F S12x128 .f32) (k : ℕ) : r12 a h x k = row12 x k :=
  funext fun y => (rd_unit a (h.unread x) _ _ (inb12 k) y _ fun b => by
    fin_cases b
    · have h0 : (y 0).val < 1 := (y 0).isLt
      show k % 12 = k % 12 + (y 0).val
      omega
    · show (y 1).val = 0 + (y 1).val
      omega).trans (congrFun (h.read_unread x) _)

private theorem off1 : ∀ i : grid0.Coords, k0_off1 i 0 = (i 0).val ∧ k0_off1 i 1 = 0 := by decide +kernel

theorem r3_eq (i : grid0.Coords) (a : Memref sig .tc .vmem S3x128 .f32) (h : a.IsWhole) (x : Vec F S3x128 .f32) : r3 i a h x = row3 x (i 0) :=
  funext fun y => (rd_unit a (h.unread x) _ _ (k0_off1_inb i) y _ fun b => by
    fin_cases b
    · have h0 : (y 0).val < 1 := (y 0).isLt
      show (i 0).val = k0_off1 i 0 + (y 0).val
      rw [(off1 i).1]; omega
    · show (y 1).val = k0_off1 i 1 + (y 1).val
      rw [(off1 i).2]; omega).trans (congrFun (h.read_unread x) _)

theorem rA_eq (a : Memref sig .tc .vmem S16x1536 .f32) (h : a.IsWhole) (x : Vec F S16x1536 .f32) (n : ℕ) : rA a h x n = aRows x n :=
  funext fun y => (rd_unit a (h.unread x) _ _ (inbAr n) y _ fun b => by
    fin_cases b <;> rfl).trans (congrFun (h.read_unread x) _)

end Cert.Proof.KernelIdeal

end
-- ==== Proof.BodySpec.lean ====
/-
  What one grid point's body computes of the state: the scratch that it fills, and the state after its 128 tokens.
-/
module

public import proofs.«01_k».proof.Proof.Pieces
public import Idealize.ShloMosaic.Lib.VecWindow

@[expose] public section

set_option maxRecDepth 16384

noncomputable section

namespace Cert.Proof.KernelIdeal

open Cert.KernelIdeal Cert.KernelIdeal.Gen
open Idealize.ShloMosaic Idealize.ShloMosaic.TcCoe Idealize.ShloMosaic.Tactic Idealize.ShloMosaic.ValueIdx

variable {F : FTy → Type} [FloatOps F] [Named F]

section
variable (i : grid0.Coords) (x2 : Vec F S1x1536x128 .fp8e4m3) (x3 : Vec F S3x128 .f32) (x4 : Vec F S1x1536x128 .fp8e4m3) (x5 : Vec F S3x128 .f32)
  (x6 : Vec F S1x16x128 .fp8e4m3) (x7 : Vec F S3x128 .f32) (x8 : Vec F S1x16x128 .fp8e4m3) (x9 : Vec F S3x128 .f32) (x11 : Vec F S16x1536 .f32) (x13 : Vec F S12x128 .f32)

/-- The step sizes. -/
def dV : S12x128x128.Idx → F .f32 := fun x =>
  dTile (x 0).val (X256 x4 ((x 0).val / 2)) (row3 x5 (i 0)) (row12 x13 (x 0).val) (ix3 (0 : Fin 1) (x 1) (x 2))

/-- The step sizes times the inputs. -/
def uV : S12x128x128.Idx → F .f32 := fun x =>
  uTile (x 0).val (X256 x2 ((x 0).val / 2)) (X256 x4 ((x 0).val / 2)) (row3 x3 (i 0)) (row3 x5 (i 0)) (row12 x13 (x 0).val) (ix3 (0 : Fin 1) (x 1) (x 2))

/-- The table of coefficients. -/
def tV : S2x128x16x128.Idx → F .f32 := fun x =>
  tTile (if (2 * (x 1).val + (x 0).val) % 2 = 0 then k0_pay490 x6 (row3 x7 (i 0)) else k0_pay491 x8 (row3 x9 (i 0)))
    ((2 * (x 1).val + (x 0).val) / 2) (ix4 (0 : Fin 1) (0 : Fin 1) (x 2) (x 3))

/-- The decay rates. -/
def aV : S24x8x128.Idx → F .f32 := fun x => aTile (aRows x11 (x 0).val) (ix3 (0 : Fin 1) (x 1) (x 2))

/-- The decay rates that the scratch holds at this point: made at the first point, kept after it. -/
def aNow (d21 : Vec F S24x8x128 .f32) : S24x8x128.Idx → F .f32 := if (i 0).val = 0 ∧ (i 1).val = 0 then aV x11 else d21

/-- The state that the scratch holds before the chunk: zero at a batch's first chunk. -/
def hNow (d20 : Vec F S24x8x128 .f32) : S24x8x128.Idx → F .f32 := if (i 1).val = 0 then k0_pay488 else d20

/-- The state after the chunk, from the rates `a` and the state `h` before it. -/
def hOut (a h : S24x8x128.Idx → F .f32) : S24x8x128.Idx → F .f32 := fun x =>
  hAt (dV i x4 x5 x13) (uV i x2 x3 x4 x5 x13) a (tV i x6 x7 x8 x9) (fun q r l => h (ix3 q r l)) 128 (x 0) (x 1) (x 2)
end

/-- The state laid out by states and channels. -/
def lV (h : S24x8x128.Idx → F .f32) : S1x16x1536.Idx → F .f32 := fun x =>
  h (ix3 (⟨2 * ((x 2).val / 128) + (x 1).val / 8, by have h1 : (x 1).val < 16 := (x 1).isLt; have h2 : (x 2).val < 1536 := (x 2).isLt; omega⟩ : Fin 24)
    (⟨(x 1).val % 8, Nat.mod_lt _ (by decide)⟩ : Fin 8) (⟨(x 2).val % 128, Nat.mod_lt _ (by decide)⟩ : Fin 128))

theorem rows_hx {S : Shape} (n p q : ℕ) (x : (⟨3, ![n, p, q]⟩ : Shape).Idx) : ∀ a, (x a).val = (![(x 0).val, 0, 0] : Fin 3 → ℕ) a + (ix3 (0 : Fin 1) (x 1) (x 2) a).val := fun a => by
  fin_cases a
  · rfl
  · exact (Nat.zero_add _).symm
  · exact (Nat.zero_add _).symm

theorem read12 (arg : Memref sig .tc .vmem S12x128x128 .f32) (G : BufTy.Contents (Elt F) arg.view.ty) (w : ℕ → Vec F S1x128x128 .f32) :
    View.read (Elt F) arg.view (arg.view.writes (Elt F) G (pieces (S := S12x128x128) (sz := S1x128x128.size) (fun n => ![n, 0, 0]) 12 inbRow w 12 (Nat.le_refl _)))
      = fun x => w (x 0).val (ix3 (0 : Fin 1) (x 1) (x 2)) :=
  funext fun x => read_pieces arg G _ 12 inbRow w x (x 0).val _ (rows_hx (S := S12x128x128) 12 128 128 x) 12 _ (x 0).isLt fun j h1 _ => ⟨0, .inl h1⟩

theorem read24 (arg : Memref sig .tc .vmem S24x8x128 .f32) (G : BufTy.Contents (Elt F) arg.view.ty) (w : ℕ → Vec F S1x8x128 .f32) :
    View.read (Elt F) arg.view (arg.view.writes (Elt F) G (pieces (S := S24x8x128) (sz := S1x8x128.size) (fun n => ![n, 0, 0]) 24 inbA w 24 (Nat.le_refl _)))
      = fun x => w (x 0).val (ix3 (0 : Fin 1) (x 1) (x 2)) :=
  funext fun x => read_pieces arg G _ 24 inbA w x (x 0).val _ (rows_hx (S := S24x8x128) 24 8 128 x) 24 _ (x 0).isLt fun j h1 _ => ⟨0, .inl h1⟩

theorem readTab (arg : Memref sig .tc .vmem S2x128x16x128 .f32) (G : BufTy.Contents (Elt F) arg.view.ty) (w : ℕ → Vec F S1x1x16x128 .f32) :
    View.read (Elt F) arg.view (arg.view.writes (Elt F) G (pieces (S := S2x128x16x128) (sz := S1x1x16x128.size) (fun n => ![n % 2, n / 2, 0, 0]) 256 inbTab w 256 (Nat.le_refl _)))
      = fun x => w (2 * (x 1).val + (x 0).val) (ix4 (0 : Fin 1) (0 : Fin 1) (x 2) (x 3)) :=
  funext fun x => by
    have h0 : (x 0).val < 2 := (x 0).isLt
    have h1 : (x 1).val < 128 := (x 1).isLt
    refine read_pieces arg G _ 256 inbTab w x (2 * (x 1).val + (x 0).val) _ (fun a => ?_) 256 _ (by omega) fun j h2 _ => ?_
    · fin_cases a
      · show (x 0).val = (2 * (x 1).val + (x 0).val) % 2 + 0
        omega
      · show (x 1).val = (2 * (x 1).val + (x 0).val) / 2 + 0
        omega
      · exact (Nat.zero_add _).symm
      · exact (Nat.zero_add _).symm
    · by_cases h : (x 1).val < j / 2
      · exact ⟨1, .inl h⟩
      · exact ⟨0, .inl (show (x 0).val < j % 2 by omega)⟩

theorem readLast (arg : Memref sig .tc .vmem S1x16x1536 .f32) (G : BufTy.Contents (Elt F) arg.view.ty) (w : ℕ → Vec F S1x8x128 .f32) (h : S24x8x128.Idx → F .f32)
    (hw : ∀ (n : Fin 24) (r : Fin 8) (l : Fin 128), w n.val (ix3 (0 : Fin 1) r l) = h (ix3 n r l)) :
    View.read (Elt F) arg.view (arg.view.writes (Elt F) G (pieces (S := S1x16x1536) (sz := S1x8x128.size) (fun n => ![0, 8 * (n % 2), 128 * (n / 2)]) 24 inbL w 24 (Nat.le_refl _))) = lV h :=
  funext fun x => by
    have h0 : (x 0).val < 1 := (x 0).isLt
    have h1 : (x 1).val < 16 := (x 1).isLt
    have h2 : (x 2).val < 1536 := (x 2).isLt
    refine (read_pieces arg G _ 24 inbL w x (2 * ((x 2).val / 128) + (x 1).val / 8) (ix3 (0 : Fin 1) (⟨(x 1).val % 8, Nat.mod_lt _ (by decide)⟩ : Fin 8) (⟨(x 2).val % 128, Nat.mod_lt _ (by decide)⟩ : Fin 128))
      (fun a => ?_) 24 _ (by omega) fun j h3 _ => ?_).trans (hw ⟨_, by omega⟩ _ _)
    · fin_cases a
      · show (x 0).val = 0 + 0
        omega
      · show (x 1).val = 8 * ((2 * ((x 2).val / 128) + (x 1).val / 8) % 2) + (x 1).val % 8
        omega
      · show (x 2).val = 128 * ((2 * ((x 2).val / 128) + (x 1).val / 8) / 2) + (x 2).val % 128
        omega
    · by_cases h : (x 2).val < 128 * (j / 2)
      · exact ⟨2, .inl h⟩
      · exact ⟨1, .inl (show (x 1).val < 8 * (j % 2) by omega)⟩

/-- A tile of the state, as it is stored in the result. -/
theorem lastTile (arg : Memref sig .tc .vmem S24x8x128 .f32) (f : BufTy.Contents (Elt F) arg.view.ty) (n : Fin 24) (m : ℕ) (hm : m = n.val) (inb) (r : Fin 8) (l : Fin 128) :
    k0_pay1 (View.readAt (Elt F) arg.view (Rect.unit (s := S24x8x128) ![m, 0, 0] S1x8x128.size inb).toLoadRect f) (ix3 (0 : Fin 1) r l)
      = View.read (Elt F) arg.view f (ix3 n r l) := by
  subst hm
  unfold k0_pay1
  dsimp only
  rw [shapeCast_ab_1ab_apply, shapeCast_1ab_ab_apply]
  refine rd_unit arg f _ _ inb _ _ fun a => ?_
  fin_cases a
  · rfl
  · exact (Nat.zero_add _).symm
  · exact (Nat.zero_add _).symm

theorem cond1 : ∀ i : grid0.Coords, (Scalar.cmpi .ne (Scalar.extui (Scalar.andi (Scalar.cmpi .eq (BitVec.ofNat 32 (i 0).val) 0#32) (Scalar.cmpi .eq (BitVec.ofNat 32 (i 1).val) 0#32))) 0#32 = 1#1)
    ↔ (i 0).val = 0 ∧ (i 1).val = 0 := by decide +kernel
theorem cond2 : ∀ i : grid0.Coords, (Scalar.cmpi .ne (Scalar.extui (Scalar.cmpi .eq (BitVec.ofNat 32 (i 1).val) 0#32)) 0#32 = 1#1) ↔ (i 1).val = 0 := by decide +kernel
theorem cond3 : ∀ i : grid0.Coords, (k0_cond3 i = 1#1) ↔ (i 1).val = 4 := by decide +kernel

/-- Reading a buffer of which a condition decides. -/
theorem read_dite {S : Shape} {e : EltTy} (arg : Memref sig .tc .vmem S e) (p q : Prop) [Decidable p] [Decidable q] (h : p ↔ q)
    (f : p → BufTy.Contents (Elt F) arg.view.ty) (g : ¬p → BufTy.Contents (Elt F) arg.view.ty) (A B : S.Idx → Elt F e)
    (hA : ∀ hc, View.read (Elt F) arg.view (f hc) = A) (hB : ∀ hc, View.read (Elt F) arg.view (g hc) = B) :
    View.read (Elt F) arg.view (dite p f g) = if q then A else B := by
  by_cases hp : p
  · rw [dif_pos hp, if_pos (h.mp hp), hA]
  · rw [dif_neg hp, if_neg (fun hq => hp (h.mpr hq)), hB]

theorem hX_congr {arg16 arg17 : Memref sig .tc .vmem S12x128x128 .f32} {arg21 : Memref sig .tc .vmem S24x8x128 .f32} {arg22 : Memref sig .tc .vmem S2x128x16x128 .f32}
    {X16 : BufTy.Contents (Elt F) arg16.view.ty} {X17 : BufTy.Contents (Elt F) arg17.view.ty} {X21 : BufTy.Contents (Elt F) arg21.view.ty} {X22 : BufTy.Contents (Elt F) arg22.view.ty}
    {h0 h0' : Fin 24 → Fin 8 → Fin 128 → F .f32} {d u a t} (e16 : View.read (Elt F) arg16.view X16 = d) (e17 : View.read (Elt F) arg17.view X17 = u)
    (e21 : View.read (Elt F) arg21.view X21 = a) (e22 : View.read (Elt F) arg22.view X22 = t) (eh : h0 = h0') (n : ℕ) :
    hX arg16 arg17 arg21 arg22 X16 X17 X21 X22 h0 n = hAt d u a t h0' n := by subst e16 e17 e21 e22 eh; rfl

theorem hG3 {arg16 arg17 : Memref sig .tc .vmem S12x128x128 .f32} {arg21 : Memref sig .tc .vmem S24x8x128 .f32} {arg22 : Memref sig .tc .vmem S2x128x16x128 .f32}
    {X16 : BufTy.Contents (Elt F) arg16.view.ty} {X17 : BufTy.Contents (Elt F) arg17.view.ty} {X21 : BufTy.Contents (Elt F) arg21.view.ty} {X22 : BufTy.Contents (Elt F) arg22.view.ty}
    {h0 : Fin 24 → Fin 8 → Fin 128 → F .f32} (x : S24x8x128.Idx) :
    hG arg16 arg17 arg21 arg22 X16 X17 X21 X22 h0 3 0 x = hX arg16 arg17 arg21 arg22 X16 X17 X21 X22 h0 128 (x 0) (x 1) (x 2) := by
  unfold hG cnt
  have h : (x 0).val < 24 := (x 0).isLt
  rw [if_pos (by omega)]

/-- The loop's exit contents, read. -/
theorem readH {S : Shape} (arg : Memref sig .tc .vmem S .f32) (G : BufTy.Contents (Elt F) arg.view.ty) (w : ℕ → S.Idx → F .f32) (n : ℕ) (h : n = 3) :
    arg.view.read (Elt F) (arg.view.writes (Elt F) G (wl S w n)) = w 3 := by
  subst h
  exact View.read_writes_full arg.view G _ (w 3) []

section
variable (i : grid0.Coords) (arg2 : Memref sig .tc .vmem S1x1536x128 .fp8e4m3) (harg2 : arg2.IsWhole) (arg3 : Memref sig .tc .vmem S3x128 .f32) (harg3 : arg3.IsWhole)
  (arg4 : Memref sig .tc .vmem S1x1536x128 .fp8e4m3) (harg4 : arg4.IsWhole) (arg5 : Memref sig .tc .vmem S3x128 .f32) (harg5 : arg5.IsWhole)
  (arg6 : Memref sig .tc .vmem S1x16x128 .fp8e4m3) (harg6 : arg6.IsWhole) (arg7 : Memref sig .tc .vmem S3x128 .f32) (harg7 : arg7.IsWhole)
  (arg8 : Memref sig .tc .vmem S1x16x128 .fp8e4m3) (harg8 : arg8.IsWhole) (arg9 : Memref sig .tc .vmem S3x128 .f32) (harg9 : arg9.IsWhole)
  (arg11 : Memref sig .tc .vmem S16x1536 .f32) (harg11 : arg11.IsWhole) (arg13 : Memref sig .tc .vmem S12x128 .f32) (harg13 : arg13.IsWhole)
  (x2 : Vec F S1x1536x128 .fp8e4m3) (x3 : Vec F S3x128 .f32) (x4 : Vec F S1x1536x128 .fp8e4m3) (x5 : Vec F S3x128 .f32)
  (x6 : Vec F S1x16x128 .fp8e4m3) (x7 : Vec F S3x128 .f32) (x8 : Vec F S1x16x128 .fp8e4m3) (x9 : Vec F S3x128 .f32) (x11 : Vec F S16x1536 .f32) (x13 : Vec F S12x128 .f32)

theorem read16 (arg : Memref sig .tc .vmem S12x128x128 .f32) (G : BufTy.Contents (Elt F) arg.view.ty) :
    View.read (Elt F) arg.view (arg.view.writes (Elt F) G (pieces (S := S12x128x128) (sz := S1x128x128.size) (fun n => ![n, 0, 0]) 12 inbRow
      (fun k => dTile k (rX arg4 harg4 x4 (k / 2)) (r3 i arg5 harg5 x5) (r12 arg13 harg13 x13 k)) 12 (Nat.le_refl _))) = dV i x4 x5 x13 :=
  (read12 arg G _).trans (funext fun x => by rw [rX_eq, r3_eq, r12_eq]; rfl)

theorem read17 (arg : Memref sig .tc .vmem S12x128x128 .f32) (G : BufTy.Contents (Elt F) arg.view.ty) :
    View.read (Elt F) arg.view (arg.view.writes (Elt F) G (pieces (S := S12x128x128) (sz := S1x128x128.size) (fun n => ![n, 0, 0]) 12 inbRow
      (fun k => uTile k (rX arg2 harg2 x2 (k / 2)) (rX arg4 harg4 x4 (k / 2)) (r3 i arg3 harg3 x3) (r3 i arg5 harg5 x5) (r12 arg13 harg13 x13 k)) 12 (Nat.le_refl _))) = uV i x2 x3 x4 x5 x13 :=
  (read12 arg G _).trans (funext fun x => by rw [rX_eq, rX_eq, r3_eq, r3_eq, r12_eq]; rfl)

theorem read21 (arg : Memref sig .tc .vmem S24x8x128 .f32) (G : BufTy.Contents (Elt F) arg.view.ty) :
    View.read (Elt F) arg.view (arg.view.writes (Elt F) G (pieces (S := S24x8x128) (sz := S1x8x128.size) (fun n => ![n, 0, 0]) 24 inbA
      (fun n => aTile (rA arg11 harg11 x11 n)) 24 (Nat.le_refl _))) = aV x11 :=
  (read24 arg G _).trans (funext fun x => by rw [rA_eq]; rfl)

theorem read22 (arg : Memref sig .tc .vmem S2x128x16x128 .f32) (G : BufTy.Contents (Elt F) arg.view.ty) :
    View.read (Elt F) arg.view (arg.view.writes (Elt F) G (pieces (S := S2x128x16x128) (sz := S1x1x16x128.size) (fun n => ![n % 2, n / 2, 0, 0]) 256 inbTab
      (fun n => tTile (if n % 2 = 0 then k0_pay490 (View.readAt (Elt F) arg6.view (Rect.unit (s := S1x16x128) ![0, 0, 0] S1x16x128.size inb_S1x16x128_S1x16x128_0_0_0).toLoadRect (harg6.unread x6)) (r3 i arg7 harg7 x7)
      else k0_pay491 (View.readAt (Elt F) arg8.view (Rect.unit (s := S1x16x128) ![0, 0, 0] S1x16x128.size inb_S1x16x128_S1x16x128_0_0_0).toLoadRect (harg8.unread x8)) (r3 i arg9 harg9 x9)) (n / 2)) 256 (Nat.le_refl _)))
      = tV i x6 x7 x8 x9 :=
  (readTab arg G _).trans (funext fun x => by
    have e : (![0, 0, 0] : Fin 3 → ℕ) = fun _ => 0 := by funext a; fin_cases a <;> rfl
    have e6 : View.readAt (Elt F) arg6.view (Rect.unit (s := S1x16x128) ![0, 0, 0] S1x16x128.size inb_S1x16x128_S1x16x128_0_0_0).toLoadRect (harg6.unread x6) = x6 := by
      refine (funext fun y => ?_ : _ = View.read (Elt F) arg6.view (harg6.unread x6)).trans (harg6.read_unread _)
      exact rd_unit arg6 _ _ _ _ y y fun a => by fin_cases a <;> exact (Nat.zero_add _).symm
    have e8 : View.readAt (Elt F) arg8.view (Rect.unit (s := S1x16x128) ![0, 0, 0] S1x16x128.size inb_S1x16x128_S1x16x128_0_0_0).toLoadRect (harg8.unread x8) = x8 := by
      refine (funext fun y => ?_ : _ = View.read (Elt F) arg8.view (harg8.unread x8)).trans (harg8.read_unread _)
      exact rd_unit arg8 _ _ _ _ y y fun a => by fin_cases a <;> exact (Nat.zero_add _).symm
    rw [e6, e8, r3_eq, r3_eq]; rfl)
end

theorem inbH (n : ℕ) : ∀ a, (![n % 24, 0, 0] : Fin 3 → ℕ) a + S1x8x128.size a ≤ S24x8x128.size a := by
  have h := Nat.mod_lt n (show 0 < 24 by decide)
  intro a
  fin_cases a
  · show n % 24 + 1 ≤ 24
    omega
  · exact Nat.le_refl _
  · exact Nat.le_refl _

/-- The result of the last chunk, read. -/
theorem read15 (arg : Memref sig .tc .vmem S1x16x1536 .f32) (arg20 : Memref sig .tc .vmem S24x8x128 .f32) (G : BufTy.Contents (Elt F) arg.view.ty) (L)
    (H : S24x8x128.Idx → F .f32) (hH : View.read (Elt F) arg20.view (arg20.view.writes (Elt F) arg20.view.junk L) = H) :
    View.read (Elt F) arg.view (arg.view.writes (Elt F) G (pieces (S := S1x16x1536) (sz := S1x8x128.size) (fun n => ![0, 8 * (n % 2), 128 * (n / 2)]) 24 inbL
      (fun n => k0_pay1 (arg20.view.readCov L (Rect.unit (s := S24x8x128) ![n % 24, 0, 0] S1x8x128.size (inbH n)).toLoadRect)) 24 (Nat.le_refl _))) = lV H :=
  readLast arg G _ H fun n r l => by
    subst hH
    exact lastTile arg20 _ n _ (Nat.mod_eq_of_lt n.isLt) (inbH n.val) r l

/-- The state after the three groups of tiles. -/
theorem readState (arg16 arg17 : Memref sig .tc .vmem S12x128x128 .f32) (arg20 arg21 : Memref sig .tc .vmem S24x8x128 .f32) (arg22 : Memref sig .tc .vmem S2x128x16x128 .f32)
    {X16 : BufTy.Contents (Elt F) arg16.view.ty} {X17 : BufTy.Contents (Elt F) arg17.view.ty} {X21 : BufTy.Contents (Elt F) arg21.view.ty} {X22 : BufTy.Contents (Elt F) arg22.view.ty}
    (G X20 : BufTy.Contents (Elt F) arg20.view.ty) {d u a t h} (e16 : View.read (Elt F) arg16.view X16 = d) (e17 : View.read (Elt F) arg17.view X17 = u)
    (e21 : View.read (Elt F) arg21.view X21 = a) (e22 : View.read (Elt F) arg22.view X22 = t) (e20 : View.read (Elt F) arg20.view X20 = h) (n : ℕ) (hn : n = 3) :
    View.read (Elt F) arg20.view (arg20.view.writes (Elt F) G (wl S24x8x128 (fun g => hG arg16 arg17 arg21 arg22 X16 X17 X21 X22 (fun q r l => View.read (Elt F) arg20.view X20 (ix3 q r l)) g 0) n))
      = fun x => hAt d u a t (fun q r l => h (ix3 q r l)) 128 (x 0) (x 1) (x 2) := by
  refine (readH arg20 G _ n hn).trans (funext fun x => (hG3 x).trans ?_)
  subst e16 e17 e21 e22 e20
  rfl

end Cert.Proof.KernelIdeal

end
-- ==== Proof.BodyValue.lean ====
module

public import proofs.«01_k».proof.Proof.ScanLoops
public import proofs.«01_k».proof.Proof.BodySpec
public import proofs.«01_k».proof.Proof.Gen.KernelIdeal.Frame
public import proofs.«01_k».proof.Proof.Gen.KernelIdeal.Skeleton
public import Idealize.ShloMosaic.Lib.Pipeline.Frame
public import Idealize.ShloMosaic.Lib.Tactic
public import Idealize.ShloMosaic.Lib.Claim

@[expose] public section

set_option maxRecDepth 16384
set_option maxHeartbeats 1000000

noncomputable section

namespace Cert.Proof.KernelIdeal

open Cert.KernelIdeal Cert.KernelIdeal.Gen
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F] [Named F]

local notation "𝕄" => MT nD τ sig Unit (Elt F) ℕ (UR sig nD τ) ℕ

set_option maxHeartbeats 8000000 in
/-- The body on whole memrefs: the inputs as they were; the rates, the state and the last state as `aNow`, `hOut` and `lV` say; the rest at some contents. -/
theorem valueRun (c : Dev nD) (i : grid0.Coords) (arg2 : Memref sig .tc .vmem S1x1536x128 .fp8e4m3) (harg2 : arg2.IsWhole) (arg3 : Memref sig .tc .vmem S3x128 .f32) (harg3 : arg3.IsWhole) (arg4 : Memref sig .tc .vmem S1x1536x128 .fp8e4m3) (harg4 : arg4.IsWhole) (arg5 : Memref sig .tc .vmem S3x128 .f32) (harg5 : arg5.IsWhole) (arg6 : Memref sig .tc .vmem S1x16x128 .fp8e4m3) (harg6 : arg6.IsWhole) (arg7 : Memref sig .tc .vmem S3x128 .f32) (harg7 : arg7.IsWhole) (arg8 : Memref sig .tc .vmem S1x16x128 .fp8e4m3) (harg8 : arg8.IsWhole) (arg9 : Memref sig .tc .vmem S3x128 .f32) (harg9 : arg9.IsWhole) (arg10 : Memref sig .tc .vmem S1x1536x128 .bf16) (harg10 : arg10.IsWhole) (arg11 : Memref sig .tc .vmem S16x1536 .f32) (harg11 : arg11.IsWhole) (arg12 : Memref sig .tc .vmem S12x128 .f32) (harg12 : arg12.IsWhole) (arg13 : Memref sig .tc .vmem S12x128 .f32) (harg13 : arg13.IsWhole) (arg14 : Memref sig .tc .vmem S1x1536x128 .bf16) (harg14 : arg14.IsWhole) (arg15 : Memref sig .tc .vmem S1x16x1536 .f32) (harg15 : arg15.IsWhole) (arg16 : Memref sig .tc .vmem S12x128x128 .f32) (harg16 : arg16.IsWhole) (arg17 : Memref sig .tc .vmem S12x128x128 .f32) (harg17 : arg17.IsWhole) (arg18 : Memref sig .tc .vmem S12x128x128 .f32) (harg18 : arg18.IsWhole) (arg19 : Memref sig .tc .vmem S12x1152x128 .f32) (harg19 : arg19.IsWhole) (arg20 : Memref sig .tc .vmem S24x8x128 .f32) (harg20 : arg20.IsWhole) (arg21 : Memref sig .tc .vmem S24x8x128 .f32) (harg21 : arg21.IsWhole) (arg22 : Memref sig .tc .vmem S2x128x16x128 .f32) (harg22 : arg22.IsWhole)
    (x2 : Vec F S1x1536x128 .fp8e4m3) (x3 : Vec F S3x128 .f32) (x4 : Vec F S1x1536x128 .fp8e4m3) (x5 : Vec F S3x128 .f32) (x6 : Vec F S1x16x128 .fp8e4m3) (x7 : Vec F S3x128 .f32) (x8 : Vec F S1x16x128 .fp8e4m3) (x9 : Vec F S3x128 .f32) (x10 : Vec F S1x1536x128 .bf16) (x11 : Vec F S16x1536 .f32) (x12 : Vec F S12x128 .f32) (x13 : Vec F S12x128 .f32) (d15 : Vec F S1x16x1536 .f32) (d20 : Vec F S24x8x128 .f32) (d21 : Vec F S24x8x128 .f32) (E : Set ℕ) (hE : E = Set.univ) (K : PUnit → sProp 𝕄) :
    iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ owns (c : Thread nD τ) arg12 fullShare x12 ∗ owns (c : Thread nD τ) arg13 fullShare x13 ∗ (∃ d, owns (c : Thread nD τ) arg14 fullShare d) ∗ owns (c : Thread nD τ) arg15 fullShare d15 ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d) ∗ owns (c : Thread nD τ) arg20 fullShare d20 ∗ owns (c : Thread nD τ) arg21 fullShare d21 ∗ (∃ d, owns (c : Thread nD τ) arg22 fullShare d) ∗ (iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ owns (c : Thread nD τ) arg12 fullShare x12 ∗ owns (c : Thread nD τ) arg13 fullShare x13 ∗ (∃ d, owns (c : Thread nD τ) arg14 fullShare d) ∗ owns (c : Thread nD τ) arg15 fullShare (if (i 1).val = 4 then lV (hOut i x2 x3 x4 x5 x6 x7 x8 x9 x13 (aNow i x11 d21) (hNow i d20)) else d15) ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d) ∗ owns (c : Thread nD τ) arg20 fullShare (hOut i x2 x3 x4 x5 x6 x7 x8 x9 x13 (aNow i x11 d21) (hNow i d20)) ∗ owns (c : Thread nD τ) arg21 fullShare (aNow i x11 d21) ∗ (∃ d, owns (c : Thread nD τ) arg22 fullShare d)) -∗ K ⟨⟩))
      ⊢ wp frame (wpE (defs₀ (F := F)) Variants.none c none) E (cc0_selective_scan (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22) K := by
  subst hE
  simp only [cc0_selective_scan_eq_skeleton]; unfold cc0_selective_scan_skel
  simp only [k0_part160_eq_skeleton]; unfold k0_part160_skel
  simp only [k0_part143_eq_skeleton]
  unfold owns
  iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%d14, %f14, -, H14⟩, ⟨%f15, %hf15, H15⟩, ⟨%d16, %f16, -, H16⟩, ⟨%d17, %f17, -, H17⟩, ⟨%d18, %f18, -, H18⟩, ⟨%d19, %f19, -, H19⟩, ⟨%f20, %hf20, H20⟩, ⟨%f21, %hf21, H21⟩, ⟨%d22, %f22, -, H22⟩, Hk⟩
  obtain rfl := harg2.eq_unread hf2; obtain rfl := harg3.eq_unread hf3; obtain rfl := harg4.eq_unread hf4; obtain rfl := harg5.eq_unread hf5; obtain rfl := harg6.eq_unread hf6; obtain rfl := harg7.eq_unread hf7; obtain rfl := harg8.eq_unread hf8; obtain rfl := harg9.eq_unread hf9; obtain rfl := harg10.eq_unread hf10; obtain rfl := harg11.eq_unread hf11; obtain rfl := harg12.eq_unread hf12; obtain rfl := harg13.eq_unread hf13
  sl_exec
  have hn : Scf.trips k0_t1_loop.lb k0_t1_loop.ub k0_t1_loop.st = 3 := by decide
  sl_step
  iapply Hk
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H6]
  · iexists _; isplitr; · ipureintro; exact harg6.read_unread _
    iexact H6
  isplitl [H7]
  · iexists _; isplitr; · ipureintro; exact harg7.read_unread _
    iexact H7
  isplitl [H8]
  · iexists _; isplitr; · ipureintro; exact harg8.read_unread _
    iexact H8
  isplitl [H9]
  · iexists _; isplitr; · ipureintro; exact harg9.read_unread _
    iexact H9
  isplitl [H10]
  · iexists _; isplitr; · ipureintro; exact harg10.read_unread _
    iexact H10
  isplitl [H11]
  · iexists _; isplitr; · ipureintro; exact harg11.read_unread _
    iexact H11
  isplitl [H12]
  · iexists _; isplitr; · ipureintro; exact harg12.read_unread _
    iexact H12
  isplitl [H13]
  · iexists _; isplitr; · ipureintro; exact harg13.read_unread _
    iexact H13
  isplitl [H14]
  · iexists _, _; isplitr; swap; · iexact H14
    ipureintro; rfl
  isplitl [H15]
  · iexists _; isplitr; swap; · iexact H15
    ipureintro
    exact read_dite arg15 _ _ (cond3 i) _ _ (lV (hOut i x2 x3 x4 x5 x6 x7 x8 x9 x13 (aNow i x11 d21) (hNow i d20))) d15 (fun _ => read15 arg15 arg20 _ _ _ (readState arg16 arg17 arg20 arg21 arg22 _ _ (read16 i arg4 harg4 arg5 harg5 arg13 harg13 x4 x5 x13 arg16 _) (read17 i arg2 harg2 arg3 harg3 arg4 harg4 arg5 harg5 arg13 harg13 x2 x3 x4 x5 x13 arg17 _)
      (read_dite arg21 _ _ (cond1 i) _ _ (aV x11) d21 (fun _ => read21 arg11 harg11 x11 arg21 _) fun _ => hf21)
      (read22 i arg6 harg6 arg7 harg7 arg8 harg8 arg9 harg9 x6 x7 x8 x9 arg22 _)
      (read_dite arg20 _ _ (cond2 i) _ _ k0_pay488 d20 (fun _ => View.read_writes_full arg20.view f20 inb_S24x8x128_S24x8x128_0_0_0 _ []) fun _ => hf20) _ hn)) fun _ => hf15
  isplitl [H16]
  · iexists _, _; isplitr; swap; · iexact H16
    ipureintro; rfl
  isplitl [H17]
  · iexists _, _; isplitr; swap; · iexact H17
    ipureintro; rfl
  isplitl [H18]
  · iexists _, _; isplitr; swap; · iexact H18
    ipureintro; rfl
  isplitl [H19]
  · iexists _, _; isplitr; swap; · iexact H19
    ipureintro; rfl
  isplitl [H20]
  · iexists _; isplitr; swap; · iexact H20
    ipureintro
    exact (readState arg16 arg17 arg20 arg21 arg22 _ _ (read16 i arg4 harg4 arg5 harg5 arg13 harg13 x4 x5 x13 arg16 _) (read17 i arg2 harg2 arg3 harg3 arg4 harg4 arg5 harg5 arg13 harg13 x2 x3 x4 x5 x13 arg17 _)
      (read_dite arg21 _ _ (cond1 i) _ _ (aV x11) d21 (fun _ => read21 arg11 harg11 x11 arg21 _) fun _ => hf21)
      (read22 i arg6 harg6 arg7 harg7 arg8 harg8 arg9 harg9 x6 x7 x8 x9 arg22 _)
      (read_dite arg20 _ _ (cond2 i) _ _ k0_pay488 d20 (fun _ => View.read_writes_full arg20.view f20 inb_S24x8x128_S24x8x128_0_0_0 _ []) fun _ => hf20) _ hn)
  isplitl [H21]
  · iexists _; isplitr; swap; · iexact H21
    ipureintro
    exact read_dite arg21 _ _ (cond1 i) _ _ (aV x11) d21 (fun _ => read21 arg11 harg11 x11 arg21 _) fun _ => hf21
  iexists _, _; isplitr; swap; · iexact H22
  ipureintro; rfl

end Cert.Proof.KernelIdeal

end
-- ==== Proof.KerBlocks.lean ====
/-
  The kernel's blocks: what each input window holds at a point, read from the arguments.
-/
module

public import proofs.«01_k».proof.Proof.Gen.KernelIdeal.Frame
public import Idealize.ShloMosaic.Lib.Pipeline.ValueKit
public import Idealize.ShloMosaic.Lib.Pointwise
public import Idealize.ShloMosaic.Lib.Claim

@[expose] public section

set_option maxRecDepth 16384

noncomputable section

namespace Cert.Proof.KernelIdeal.Blocks

open Cert.KernelIdeal Cert.KernelIdeal.Gen
open Idealize.ShloMosaic Idealize.ShloMosaic.TcCoe Idealize.ShloMosaic.Tactic

variable (m : (ℓ : Loc nD τ sig) → Buf (Elt Ideal) ℓ) (c : Dev nD) (t : Fin cfg0.N)

/-- Which block every input window and the state's window hold at a point. -/
theorem idx : ∀ t : Fin cfg0.N, win0_0.index t = ![(grid0.coords t 0).val, 0, (grid0.coords t 1).val] ∧ win0_1.index t = ![0, (grid0.coords t 1).val]
    ∧ win0_2.index t = ![(grid0.coords t 0).val, 0, (grid0.coords t 1).val] ∧ win0_3.index t = ![0, (grid0.coords t 1).val]
    ∧ win0_4.index t = ![(grid0.coords t 0).val, 0, (grid0.coords t 1).val] ∧ win0_5.index t = ![0, (grid0.coords t 1).val]
    ∧ win0_9.index t = ![0, 0] ∧ win0_11.index t = ![0, 0] ∧ win0_13.index t = ![(grid0.coords t 0).val, 0, 0] :=
  (by decide +kernel : ∀ t : Fin grid0.N, _)

theorem iblk_0 (x : Fin 1536) (p : Fin 128) : (iblk m c 0 t : Vec Ideal S1x1536x128 .fp8e4m3) (ix3 (0 : Fin 1) x p)
    = (m ((c : Thread nD τ).loc main_arg0) : Vec Ideal S3x1536x640 .fp8e4m3) (ix3 (grid0.coords t 0 : Fin 3) x (⟨128 * (grid0.coords t 1).val + p.val, by have h : (grid0.coords t 1).val < 5 := (grid0.coords t 1).isLt; omega⟩ : Fin 640)) := by
  blk_ext! [iblk, V, idx t]

theorem iblk_2 (x : Fin 1536) (p : Fin 128) : (iblk m c 2 t : Vec Ideal S1x1536x128 .fp8e4m3) (ix3 (0 : Fin 1) x p)
    = (m ((c : Thread nD τ).loc main_arg2) : Vec Ideal S3x1536x640 .fp8e4m3) (ix3 (grid0.coords t 0 : Fin 3) x (⟨128 * (grid0.coords t 1).val + p.val, by have h : (grid0.coords t 1).val < 5 := (grid0.coords t 1).isLt; omega⟩ : Fin 640)) := by
  blk_ext! [iblk, V, idx t]

theorem iblk_4 (x : Fin 16) (p : Fin 128) : (iblk m c 4 t : Vec Ideal S1x16x128 .fp8e4m3) (ix3 (0 : Fin 1) x p)
    = (m ((c : Thread nD τ).loc main_arg4) : Vec Ideal S3x16x640 .fp8e4m3) (ix3 (grid0.coords t 0 : Fin 3) x (⟨128 * (grid0.coords t 1).val + p.val, by have h : (grid0.coords t 1).val < 5 := (grid0.coords t 1).isLt; omega⟩ : Fin 640)) := by
  blk_ext! [iblk, V, idx t]

theorem iblk_1 (b : Fin 3) (p : Fin 128) : (iblk m c 1 t : Vec Ideal S3x128 .f32) (ix2 b p)
    = (m ((c : Thread nD τ).loc main_arg1) : Vec Ideal S3x640 .f32) (ix2 b (⟨128 * (grid0.coords t 1).val + p.val, by have h : (grid0.coords t 1).val < 5 := (grid0.coords t 1).isLt; omega⟩ : Fin 640)) := by
  blk_ext! [iblk, V, idx t]

theorem iblk_3 (b : Fin 3) (p : Fin 128) : (iblk m c 3 t : Vec Ideal S3x128 .f32) (ix2 b p)
    = (m ((c : Thread nD τ).loc main_arg3) : Vec Ideal S3x640 .f32) (ix2 b (⟨128 * (grid0.coords t 1).val + p.val, by have h : (grid0.coords t 1).val < 5 := (grid0.coords t 1).isLt; omega⟩ : Fin 640)) := by
  blk_ext! [iblk, V, idx t]

theorem iblk_5 (b : Fin 3) (p : Fin 128) : (iblk m c 5 t : Vec Ideal S3x128 .f32) (ix2 b p)
    = (m ((c : Thread nD τ).loc main_arg5) : Vec Ideal S3x640 .f32) (ix2 b (⟨128 * (grid0.coords t 1).val + p.val, by have h : (grid0.coords t 1).val < 5 := (grid0.coords t 1).isLt; omega⟩ : Fin 640)) := by
  blk_ext! [iblk, V, idx t]

theorem iblk_9 (n : Fin 16) (x : Fin 1536) : (iblk m c 9 t : Vec Ideal S16x1536 .f32) (ix2 n x) = (m ((c : Thread nD τ).loc main_arg9) : Vec Ideal S1536x16 .f32) (ix2 x n) := by
  blk_ext! [iblk, V, idx t]

theorem iblk_11 (k : Fin 12) (l : Fin 128) : (iblk m c 11 t : Vec Ideal S12x128 .f32) (ix2 k l) = (m ((c : Thread nD τ).loc main_arg11) : Vec Ideal S1536 .f32) (ix1 (⟨128 * k.val + l.val, by omega⟩ : Fin 1536)) := by
  blk_ext! [iblk, V, idx t]

end Cert.Proof.KernelIdeal.Blocks

end
-- ==== Proof.KernelIdealValue.lean ====
/-
  The launch of the kernel: the state result at every point, from the windows' blocks.
-/
module

public import proofs.«01_k».proof.Proof.Gen.KernelIdeal.Loops
public import proofs.«01_k».proof.Proof.Gen.KernelIdeal.Frame
public import proofs.«01_k».proof.Proof.BodyValue
public import proofs.«01_k».proof.Proof.KerBlocks
public import Idealize.ShloMosaic.Lib.Pipeline.ValueKit
public import Idealize.ShloMosaic.Lib.Pipeline.Frame
public import Idealize.ShloMosaic.Lib.Tactic
public import Idealize.ShloMosaic.Lib.Claim

@[expose] public section

set_option maxRecDepth 16384
set_option maxHeartbeats 1000000

noncomputable section

namespace Cert.Proof.KernelIdeal.Value

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-- The output window of which nothing is named here. -/
def forgets0 : Fin 14 → Bool := fun w => w.val == 12

/-- The decay rates: those of the first point's block, which every point finds. -/
def aSt (c : Dev nD) : S24x8x128.Idx → F .f32 := aV (iblk m c 9 t0_0 : Vec F S16x1536 .f32)

/-- One point's step of the state. -/
def hStep (c : Dev nD) (t : Fin cfg0.N) (h : S24x8x128.Idx → F .f32) : S24x8x128.Idx → F .f32 :=
  hOut (grid0.coords t) (iblk m c 0 t) (iblk m c 1 t) (iblk m c 2 t) (iblk m c 3 t) (iblk m c 4 t) (iblk m c 5 t) (iblk m c 6 t) (iblk m c 7 t) (iblk m c 11 t) (aSt m c) (hNow (grid0.coords t) h)

/-- The state after the first `n` points. -/
def hSt (c : Dev nD) : ℕ → S24x8x128.Idx → F .f32
  | 0 => k0_pay488
  | n + 1 => if h : n < cfg0.N then hStep m c ⟨n, h⟩ (hSt c n) else hSt c n

theorem hSt_succ (c : Dev nD) (t : Fin cfg0.N) : hSt m c (t.val + 1) = hStep m c t (hSt m c t.val) := by
  rw [hSt.eq_2, dif_pos t.isLt]

theorem coords0 (t : Fin cfg0.N) : ((grid0.coords t) 0).val = t.val / 5 := by revert t; decide +kernel
theorem coords1 (t : Fin cfg0.N) : ((grid0.coords t) 1).val = t.val % 5 := by revert t; decide +kernel

/-- What the two kept scratch buffers hold before point `t`. -/
def Kept (c : Dev nD) (n : ℕ) (d20 d21 : S24x8x128.Idx → F .f32) : Prop := n ≠ 0 → d20 = hSt m c n ∧ d21 = aSt m c

theorem aNow_kept (c : Dev nD) (t : Fin cfg0.N) {d20 d21 : S24x8x128.Idx → F .f32} (h : Kept m c t.val d20 d21) :
    aNow (grid0.coords t) (iblk m c 9 t : Vec F S16x1536 .f32) d21 = aSt m c := by
  unfold aNow
  by_cases h0 : t.val = 0
  · have e : t = t0_0 := Fin.ext h0
    subst e
    exact if_pos ⟨(coords0 _).trans rfl, (coords1 _).trans rfl⟩
  · rw [if_neg (fun hc => h0 (by have h1 := (coords0 t).symm.trans hc.1; have h2 := (coords1 t).symm.trans hc.2; omega))]
    exact (h h0).2

theorem hNow_kept (c : Dev nD) (t : Fin cfg0.N) {d20 d21 : S24x8x128.Idx → F .f32} (h : Kept m c t.val d20 d21) :
    hNow (grid0.coords t) d20 = hNow (grid0.coords t) (hSt m c t.val) := by
  unfold hNow
  by_cases h0 : t.val = 0
  · have e : ((grid0.coords t) 1).val = 0 := by rw [coords1, h0]
    rw [if_pos e, if_pos e]
  · rw [(h h0).1]

theorem hOut_kept (c : Dev nD) (t : Fin cfg0.N) {d20 d21 : S24x8x128.Idx → F .f32} (h : Kept m c t.val d20 d21) :
    hOut (grid0.coords t) (iblk m c 0 t) (iblk m c 1 t) (iblk m c 2 t) (iblk m c 3 t) (iblk m c 4 t) (iblk m c 5 t) (iblk m c 6 t) (iblk m c 7 t) (iblk m c 11 t) (aNow (grid0.coords t) (iblk m c 9 t : Vec F S16x1536 .f32) d21) (hNow (grid0.coords t) d20) = hSt m c (t.val + 1) := by
  rw [aNow_kept m c t h, hNow_kept m c t h, hSt_succ]; rfl

/-- The invariant: the scratch operands, two of them at what the points before left. -/
def PhiT (c : Dev nD) (n : ℕ) : sProp 𝕄 :=
  iprop(iprop((∃ d, owns (c : Thread nD τ) (Memref.whole cc0_scratch0) fullShare d) ∗ (∃ d, owns (c : Thread nD τ) (Memref.whole cc0_scratch1) fullShare d) ∗ (∃ d, owns (c : Thread nD τ) (Memref.whole cc0_scratch2) fullShare d) ∗ (∃ d, owns (c : Thread nD τ) (Memref.whole cc0_scratch3) fullShare d) ∗ (∃ d20 d21, owns (c : Thread nD τ) (Memref.whole cc0_scratch4) fullShare d20 ∗ owns (c : Thread nD τ) (Memref.whole cc0_scratch5) fullShare d21 ∗ ⌜Kept m c n d20 d21⌝) ∗ (∃ d, owns (c : Thread nD τ) (Memref.whole cc0_scratch6) fullShare d)) ∗ (∃ r, prngReg c r))

/-- The pipeline's proof data: every input at its block, the first output unnamed, the state laid out. -/
def fdats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, h⟩ => Pipeline.Dat.unnamed (cfg := cfg0) ⟨12, h⟩ t
    | ⟨13, _⟩ => lV (hSt m c (t.val + 1))
  Φ t := PhiT m c t.val
  q _ := fullShare
  owed _ := 0

theorem A_eq (c : Dev nD) (w : Fin cfg0.W) : (fdats m 0 c).A w = V m c (Pipeline.arrRef spec0 w) := by
  dsimp only [fdats]
theorem after0_0 (c : Dev nD) (t : Fin cfg0.N) : (fdats m 0 c).after 0 t = iblk m c 0 t := by dsimp only [fdats]
theorem after0_1 (c : Dev nD) (t : Fin cfg0.N) : (fdats m 0 c).after 1 t = iblk m c 1 t := by dsimp only [fdats]
theorem after0_2 (c : Dev nD) (t : Fin cfg0.N) : (fdats m 0 c).after 2 t = iblk m c 2 t := by dsimp only [fdats]
theorem after0_3 (c : Dev nD) (t : Fin cfg0.N) : (fdats m 0 c).after 3 t = iblk m c 3 t := by dsimp only [fdats]
theorem after0_4 (c : Dev nD) (t : Fin cfg0.N) : (fdats m 0 c).after 4 t = iblk m c 4 t := by dsimp only [fdats]
theorem after0_5 (c : Dev nD) (t : Fin cfg0.N) : (fdats m 0 c).after 5 t = iblk m c 5 t := by dsimp only [fdats]
theorem after0_6 (c : Dev nD) (t : Fin cfg0.N) : (fdats m 0 c).after 6 t = iblk m c 6 t := by dsimp only [fdats]
theorem after0_7 (c : Dev nD) (t : Fin cfg0.N) : (fdats m 0 c).after 7 t = iblk m c 7 t := by dsimp only [fdats]
theorem after0_8 (c : Dev nD) (t : Fin cfg0.N) : (fdats m 0 c).after 8 t = iblk m c 8 t := by dsimp only [fdats]
theorem after0_9 (c : Dev nD) (t : Fin cfg0.N) : (fdats m 0 c).after 9 t = iblk m c 9 t := by dsimp only [fdats]
theorem after0_10 (c : Dev nD) (t : Fin cfg0.N) : (fdats m 0 c).after 10 t = iblk m c 10 t := by dsimp only [fdats]
theorem after0_11 (c : Dev nD) (t : Fin cfg0.N) : (fdats m 0 c).after 11 t = iblk m c 11 t := by dsimp only [fdats]
theorem after0_13 (c : Dev nD) (t : Fin cfg0.N) : (fdats m 0 c).after 13 t = lV (hSt m c (t.val + 1)) := by dsimp only [fdats]
theorem before0_0 (c : Dev nD) (t : Fin cfg0.N) (d) : (fdats m 0 c).before 0 t d = iblk m c 0 t :=
  before0_0_of m (fdats m 0 c) (A_eq m c 0) (after0_0 m c) t d
theorem before0_1 (c : Dev nD) (t : Fin cfg0.N) (d) : (fdats m 0 c).before 1 t d = iblk m c 1 t :=
  before0_1_of m (fdats m 0 c) (A_eq m c 1) (after0_1 m c) t d
theorem before0_2 (c : Dev nD) (t : Fin cfg0.N) (d) : (fdats m 0 c).before 2 t d = iblk m c 2 t :=
  before0_2_of m (fdats m 0 c) (A_eq m c 2) (after0_2 m c) t d
theorem before0_3 (c : Dev nD) (t : Fin cfg0.N) (d) : (fdats m 0 c).before 3 t d = iblk m c 3 t :=
  before0_3_of m (fdats m 0 c) (A_eq m c 3) (after0_3 m c) t d
theorem before0_4 (c : Dev nD) (t : Fin cfg0.N) (d) : (fdats m 0 c).before 4 t d = iblk m c 4 t :=
  before0_4_of m (fdats m 0 c) (A_eq m c 4) (after0_4 m c) t d
theorem before0_5 (c : Dev nD) (t : Fin cfg0.N) (d) : (fdats m 0 c).before 5 t d = iblk m c 5 t :=
  before0_5_of m (fdats m 0 c) (A_eq m c 5) (after0_5 m c) t d
theorem before0_6 (c : Dev nD) (t : Fin cfg0.N) (d) : (fdats m 0 c).before 6 t d = iblk m c 6 t :=
  before0_6_of m (fdats m 0 c) (A_eq m c 6) (after0_6 m c) t d
theorem before0_7 (c : Dev nD) (t : Fin cfg0.N) (d) : (fdats m 0 c).before 7 t d = iblk m c 7 t :=
  before0_7_of m (fdats m 0 c) (A_eq m c 7) (after0_7 m c) t d
theorem before0_8 (c : Dev nD) (t : Fin cfg0.N) (d) : (fdats m 0 c).before 8 t d = iblk m c 8 t :=
  before0_8_of m (fdats m 0 c) (A_eq m c 8) (after0_8 m c) t d
theorem before0_9 (c : Dev nD) (t : Fin cfg0.N) (d) : (fdats m 0 c).before 9 t d = iblk m c 9 t :=
  before0_9_of m (fdats m 0 c) (A_eq m c 9) (after0_9 m c) t d
theorem before0_10 (c : Dev nD) (t : Fin cfg0.N) (d) : (fdats m 0 c).before 10 t d = iblk m c 10 t :=
  before0_10_of m (fdats m 0 c) (A_eq m c 10) (after0_10 m c) t d
theorem before0_11 (c : Dev nD) (t : Fin cfg0.N) (d) : (fdats m 0 c).before 11 t d = iblk m c 11 t :=
  before0_11_of m (fdats m 0 c) (A_eq m c 11) (after0_11 m c) t d

/-- The invariant with the scratch operands as memrefs owned at some contents. -/
theorem PhiA0_eq (c : Dev nD) :
    (Pipeline.ΦA spec0 c : sProp 𝕄) = iprop(iprop((∃ d, owns (c : Thread nD τ) (Memref.whole cc0_scratch0) fullShare d) ∗ (∃ d, owns (c : Thread nD τ) (Memref.whole cc0_scratch1) fullShare d) ∗ (∃ d, owns (c : Thread nD τ) (Memref.whole cc0_scratch2) fullShare d) ∗ (∃ d, owns (c : Thread nD τ) (Memref.whole cc0_scratch3) fullShare d) ∗ (∃ d, owns (c : Thread nD τ) (Memref.whole cc0_scratch4) fullShare d) ∗ (∃ d, owns (c : Thread nD τ) (Memref.whole cc0_scratch5) fullShare d) ∗ (∃ d, owns (c : Thread nD τ) (Memref.whole cc0_scratch6) fullShare d)) ∗ (∃ r, prngReg c r)) := by
  unfold Pipeline.ΦA; rw [scopedRest0_eq]; simp only [owns_whole]; try rfl

/-- What the body is called with at point `t`, the windows one by one, -/
def bodyPre (c : Dev nD) (t : Fin cfg0.N) : sProp 𝕄 :=
  iprop((fdats m 0 c).Φ t.castSucc ∗ (fdats m 0 c).owesAt () t.castSucc
    ∗ (∃ d, owns (c : Thread nD τ) (win0_0.stage (cfg0.slots t 0)) fullShare ((fdats m 0 c).before 0 t d))
    ∗ (∃ d, owns (c : Thread nD τ) (win0_1.stage (cfg0.slots t 1)) fullShare ((fdats m 0 c).before 1 t d))
    ∗ (∃ d, owns (c : Thread nD τ) (win0_2.stage (cfg0.slots t 2)) fullShare ((fdats m 0 c).before 2 t d))
    ∗ (∃ d, owns (c : Thread nD τ) (win0_3.stage (cfg0.slots t 3)) fullShare ((fdats m 0 c).before 3 t d))
    ∗ (∃ d, owns (c : Thread nD τ) (win0_4.stage (cfg0.slots t 4)) fullShare ((fdats m 0 c).before 4 t d))
    ∗ (∃ d, owns (c : Thread nD τ) (win0_5.stage (cfg0.slots t 5)) fullShare ((fdats m 0 c).before 5 t d))
    ∗ (∃ d, owns (c : Thread nD τ) (win0_6.stage (cfg0.slots t 6)) fullShare ((fdats m 0 c).before 6 t d))
    ∗ (∃ d, owns (c : Thread nD τ) (win0_7.stage (cfg0.slots t 7)) fullShare ((fdats m 0 c).before 7 t d))
    ∗ (∃ d, owns (c : Thread nD τ) (win0_8.stage (cfg0.slots t 8)) fullShare ((fdats m 0 c).before 8 t d))
    ∗ (∃ d, owns (c : Thread nD τ) (win0_9.stage (cfg0.slots t 9)) fullShare ((fdats m 0 c).before 9 t d))
    ∗ (∃ d, owns (c : Thread nD τ) (win0_10.stage (cfg0.slots t 10)) fullShare ((fdats m 0 c).before 10 t d))
    ∗ (∃ d, owns (c : Thread nD τ) (win0_11.stage (cfg0.slots t 11)) fullShare ((fdats m 0 c).before 11 t d))
    ∗ (∃ d, owns (c : Thread nD τ) (win0_12.stage (cfg0.slots t 12)) fullShare d)
    ∗ (∃ d, owns (c : Thread nD τ) (win0_13.stage (cfg0.slots t 13)) fullShare ((fdats m 0 c).before 13 t d)))

/-- What it leaves in the state's window: at a batch's last chunk the state, before it what it found. -/
def leaves13 (c : Dev nD) (t : Fin cfg0.N) : sProp 𝕄 :=
  match cfg0.idle 13 (cfg0.grid.coords t) with
  | true =>
    match (cfg0.win 13).flush t with
    | false => iprop(∃ d, owns (c : Thread nD τ) (win0_13.stage (cfg0.slots t 13)) fullShare ((fdats m 0 c).before 13 t d))
    | true => owns (c : Thread nD τ) (win0_13.stage (cfg0.slots t 13)) fullShare ((fdats m 0 c).after 13 t)
  | false => owns (c : Thread nD τ) (win0_13.stage (cfg0.slots t 13)) fullShare ((fdats m 0 c).after 13 t)

theorem idle13 (t : Fin cfg0.N) : cfg0.idle 13 (cfg0.grid.coords t) = !decide (t.val % 5 = 4) := by revert t; decide +kernel

theorem leaves13_intro (c : Dev nD) (t : Fin cfg0.N) (d : Vec F S1x16x1536 .f32) (A : S24x8x128.Idx → F .f32) (hA : A = hSt m c (t.val + 1)) :
    owns (c : Thread nD τ) (win0_13.stage (cfg0.slots t 13)) fullShare (if ((grid0.coords t) 1).val = 4 then lV A else ((fdats m 0 c).before 13 t d : Vec F S1x16x1536 .f32)) ⊢ leaves13 m c t := by
  subst hA
  unfold leaves13
  rw [idle13]
  by_cases h : t.val % 5 = 4
  · rw [if_pos ((coords1 t).trans h), decide_eq_true h]
    exact .rfl
  · rw [if_neg (fun e => h ((coords1 t).symm.trans e)), decide_eq_false h, (Bool.eq_false_iff.mpr (fun e => h ((flush0_13 t).mp e)) : (cfg0.win 13).flush t = false)]
    show _ ⊢ iprop(∃ d, owns (c : Thread nD τ) (win0_13.stage (cfg0.slots t 13)) fullShare ((fdats m 0 c).before 13 t d))
    iintro H
    iexists _
    iexact H

/-- and what it returns. -/
def bodyPost (c : Dev nD) (t : Fin cfg0.N) : sProp 𝕄 :=
  iprop((fdats m 0 c).Φ t.succ ∗ (fdats m 0 c).owesAt () t.succ
    ∗ owns (c : Thread nD τ) (win0_0.stage (cfg0.slots t 0)) fullShare ((fdats m 0 c).after 0 t)
    ∗ owns (c : Thread nD τ) (win0_1.stage (cfg0.slots t 1)) fullShare ((fdats m 0 c).after 1 t)
    ∗ owns (c : Thread nD τ) (win0_2.stage (cfg0.slots t 2)) fullShare ((fdats m 0 c).after 2 t)
    ∗ owns (c : Thread nD τ) (win0_3.stage (cfg0.slots t 3)) fullShare ((fdats m 0 c).after 3 t)
    ∗ owns (c : Thread nD τ) (win0_4.stage (cfg0.slots t 4)) fullShare ((fdats m 0 c).after 4 t)
    ∗ owns (c : Thread nD τ) (win0_5.stage (cfg0.slots t 5)) fullShare ((fdats m 0 c).after 5 t)
    ∗ owns (c : Thread nD τ) (win0_6.stage (cfg0.slots t 6)) fullShare ((fdats m 0 c).after 6 t)
    ∗ owns (c : Thread nD τ) (win0_7.stage (cfg0.slots t 7)) fullShare ((fdats m 0 c).after 7 t)
    ∗ owns (c : Thread nD τ) (win0_8.stage (cfg0.slots t 8)) fullShare ((fdats m 0 c).after 8 t)
    ∗ owns (c : Thread nD τ) (win0_9.stage (cfg0.slots t 9)) fullShare ((fdats m 0 c).after 9 t)
    ∗ owns (c : Thread nD τ) (win0_10.stage (cfg0.slots t 10)) fullShare ((fdats m 0 c).after 10 t)
    ∗ owns (c : Thread nD τ) (win0_11.stage (cfg0.slots t 11)) fullShare ((fdats m 0 c).after 11 t)
    ∗ (∃ d, owns (c : Thread nD τ) (win0_12.stage (cfg0.slots t 12)) fullShare d)
    ∗ leaves13 m c t)

set_option maxHeartbeats 1600000 in
/-- The body at any point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8, before0_9, before0_10, before0_11]
  rw [show (fdats m 0 c).Φ t.succ = PhiT m c (t.val + 1) from rfl, show (fdats m 0 c).Φ t.castSucc = PhiT m c t.val from rfl,
    show (fdats m 0 c).owesAt () t.succ = (fdats m 0 c).owesAt () t.castSucc from rfl,
    after0_0, after0_1, after0_2, after0_3, after0_4, after0_5, after0_6, after0_7, after0_8, after0_9, after0_10, after0_11]
  unfold PhiT
  iintro ⟨⟨⟨HS0, HS1, HS2, HS3, ⟨%d20, %d21, HS4, HS5, %hk⟩, HS6⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩⟩
  iapply (valueRun c _ _ _ _ _ _ _ _ _ _ _ _ _ _ _ _ _ _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) ((fdats m 0 c).before 13 t d13) d20 d21 Set.univ rfl _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexists _; iexact H12
  isplitl [H13]; · iexact H13
  isplitl [HS0]; · iexact HS0
  isplitl [HS1]; · iexact HS1
  isplitl [HS2]; · iexact HS2
  isplitl [HS3]; · iexact HS3
  isplitl [HS4]; · iexact HS4
  isplitl [HS5]; · iexact HS5
  isplitl [HS6]; · iexact HS6
  iintro ⟨H0, H1, H2, H3, H4, H5, H6, H7, H8, H9, H10, H11, H12, H13, HS0, HS1, HS2, HS3, HS4, HS5, HS6⟩
  isplitl [HS0 HS1 HS2 HS3 HS4 HS5 HS6 Hg]
  · isplitl [HS0 HS1 HS2 HS3 HS4 HS5 HS6]
    · isplitl [HS0]
      · iexact HS0
      isplitl [HS1]
      · iexact HS1
      isplitl [HS2]
      · iexact HS2
      isplitl [HS3]
      · iexact HS3
      isplitl [HS4 HS5]
      · iexists _, _
        isplitl [HS4]
        · iexact HS4
        isplitl [HS5]
        · iexact HS5
        ipureintro
        exact fun _ => ⟨hOut_kept m c t hk, aNow_kept m c t hk⟩
      iexact HS6
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  iapply (leaves13_intro m c t d13 _ (hOut_kept m c t hk))
  iexact H13

theorem defs₀_row (t : Fin cfg0.N) :
    defs₀ (F := F) .tc cfg0.body (cfg0.bodyArgs t (cfg0.slots t)) = bodyAt0 t := by
  unfold defs₀; rw [Defs.onTc_tc]

/-- The body obligation at every point. -/
theorem body_obligation (c : Dev nD) : BodyObligation (fdats (F := F) m 0 c) (defs₀ (F := F)) Variants.none () Set.univ forgets0 := fun t => by
  rw [bigSep_W0, bigSep_W0, defs₀_row]
  exact triple_restated (sound_body m c t) rfl .rfl fun _ => .rfl

theorem hin (c : Dev nD) : (Pipeline.ΦA spec0 c : sProp 𝕄) ⊢ (fdats m 0 c).Φ 0 := by
  rw [show (fdats m 0 c).Φ 0 = PhiT m c 0 from rfl, PhiA0_eq]
  unfold PhiT
  iintro ⟨⟨HS0, HS1, HS2, HS3, ⟨%d20, HS4⟩, ⟨%d21, HS5⟩, HS6⟩, Hg⟩
  isplitl [HS0 HS1 HS2 HS3 HS4 HS5 HS6]
  · isplitl [HS0]; · iexact HS0
    isplitl [HS1]; · iexact HS1
    isplitl [HS2]; · iexact HS2
    isplitl [HS3]; · iexact HS3
    isplitl [HS4 HS5]
    · iexists _, _
      isplitl [HS4]; · iexact HS4
      isplitl [HS5]; · iexact HS5
      ipureintro
      exact fun h => absurd rfl h
    iexact HS6
  iexact Hg

theorem hout (c : Dev nD) : (fdats m 0 c).Φ (Fin.last cfg0.N) ⊢ (Pipeline.ΦA spec0 c : sProp 𝕄) := by
  rw [show (fdats m 0 c).Φ (Fin.last cfg0.N) = PhiT m c cfg0.N from rfl, PhiA0_eq]
  unfold PhiT
  iintro ⟨⟨HS0, HS1, HS2, HS3, ⟨%d20, %d21, HS4, HS5, %hk⟩, HS6⟩, Hg⟩
  isplitl [HS0 HS1 HS2 HS3 HS4 HS5 HS6]
  · isplitl [HS0]; · iexact HS0
    isplitl [HS1]; · iexact HS1
    isplitl [HS2]; · iexact HS2
    isplitl [HS3]; · iexact HS3
    isplitl [HS4]; · iexists _; iexact HS4
    isplitl [HS5]; · iexists _; iexact HS5
    iexact HS6
  iexact Hg

set_option backward.isDefEq.respectTransparency.types false in
/-- The launch: every execution terminates, with the inputs unchanged and every counter at zero. -/
theorem run_main_quiescent : θ_run defs (onTc (τ := τ) (main (F := F))) (s₀ m ρ) (fun r => (Pipeline.RDat.FramePost (cfgs 0) (fun c => (fdats m 0 c).toRForget forgets0) (V m)) r ∧ r.2.sem = fun _ => 0) :=
  Pipeline.θ_run_frame_track_forget (Q' := _) cfgs (fdats m) (0 : Fin 1) launch0 defs₀ Variants.none forgets0 m ρ main
    (hbody := fun c => (body_obligation m c).loose) (hshare := fun c => (fdats m 0 c).share_full fun _ => rfl)
    (howed := fun _ _ => rfl) (V := V m) (hmain := hmain m Variants.none) (hA := A_eq m) (hin := hin m) (hout := hout m)

/-- The state result: every batch's last state, laid out. -/
def hKer (c : Dev nD) : S3x16x1536.Idx → F .f32 := fun x =>
  lV (hSt m c (5 * (x 0).val + 5)) (ix3 (0 : Fin 1) (x 1) (x 2))

set_option backward.isDefEq.respectTransparency.types false in
theorem arr_13 (c : Dev nD) : (fdats m 0 c).arrAt 13 cfg0.N = (hKer m c : Vec F S3x16x1536 .f32) := by
  refine (fdats m 0 c).arrAt_eq_of_covers 13 _ (by decide +kernel) fun t hf y => ?_
  rw [after0_13]
  have ht : t.val % 5 = 4 := (flush0_13 t).mp hf
  have key : ∀ (n : ℕ) (z z' : S1x16x1536.Idx), n = t.val + 1 → z = z' → lV (hSt m c (t.val + 1)) z = lV (hSt m c n) z' := fun n z z' hn hz => by
    rw [hn, hz]
  have hi := (Blocks.idx t).2.2.2.2.2.2.2.2
  have hc := coords0 t
  blk_simp
  refine key _ _ _ ?_ ?_
  · blk_simp [hi]
    omega
  · blk_ext [hi]

/-- Every execution terminates without fault, with the state result as named, leaves the arguments unchanged and every counter at zero. -/
theorem run_value : θ_run defs (onTc (τ := τ) (main (F := F))) ⟨m, fun _ => 0, ρ⟩ (fun r => (∀ c : Dev nD,
      r.2.mem ((c.tc : Thread nD τ).loc main_v3_1) = (hKer m c : Vec F S3x16x1536 .f32) ∧
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11))
      ∧ r.2.sem = fun _ => 0) :=
  (θ_run defs _ _).mono (fun _ hh => ⟨fun c => have h := hh.1; ⟨(((fdats m 0 c).toRForget_arrAt_iff (fgt := forgets0) (w := 13) rfl _ _).mp ((h c).1 13)).trans (arr_13 m c),
    (Pipeline.RDat.FramePost.arr_in h c 0 rfl).trans ((A_eq m c 0).trans (V_main_arg0 m c)),
    (Pipeline.RDat.FramePost.arr_in h c 1 rfl).trans ((A_eq m c 1).trans (V_main_arg1 m c)),
    (Pipeline.RDat.FramePost.arr_in h c 2 rfl).trans ((A_eq m c 2).trans (V_main_arg2 m c)),
    (Pipeline.RDat.FramePost.arr_in h c 3 rfl).trans ((A_eq m c 3).trans (V_main_arg3 m c)),
    (Pipeline.RDat.FramePost.arr_in h c 4 rfl).trans ((A_eq m c 4).trans (V_main_arg4 m c)),
    (Pipeline.RDat.FramePost.arr_in h c 5 rfl).trans ((A_eq m c 5).trans (V_main_arg5 m c)),
    (Pipeline.RDat.FramePost.arr_in h c 6 rfl).trans ((A_eq m c 6).trans (V_main_arg6 m c)),
    (Pipeline.RDat.FramePost.arr_in h c 7 rfl).trans ((A_eq m c 7).trans (V_main_arg7 m c)),
    (Pipeline.RDat.FramePost.arr_in h c 8 rfl).trans ((A_eq m c 8).trans (V_main_arg8 m c)),
    ((h c).2 main_arg9 (Pipeline.mem_restRefs_of main_arg9 (by decide) (by decide))).trans (V_main_arg9 m c),
    ((h c).2 main_arg10 (Pipeline.mem_restRefs_of main_arg10 (by decide) (by decide))).trans (V_main_arg10 m c),
    ((h c).2 main_arg11 (Pipeline.mem_restRefs_of main_arg11 (by decide) (by decide))).trans (V_main_arg11 m c)⟩, hh.2⟩) (run_main_quiescent m ρ)

end Cert.Proof.KernelIdeal.Value

end
-- ==== Proof.RefBlocks.lean ====
/-
  The reference's blocks: its one point's windows hold the arguments as wholes.
-/
module

public import proofs.«01_k».proof.Proof.Gen.ReferenceIdeal.Frame
public import Idealize.ShloMosaic.Lib.Pipeline.ValueKit
public import Idealize.ShloMosaic.Lib.Pointwise
public import Idealize.ShloMosaic.Lib.Claim

@[expose] public section

set_option maxRecDepth 16384

noncomputable section

namespace Cert.Proof.ReferenceIdeal.Blocks

open Cert.ReferenceIdeal Cert.ReferenceIdeal.Gen
open Idealize.ShloMosaic Idealize.ShloMosaic.TcCoe Idealize.ShloMosaic.Tactic

variable (m : (ℓ : Loc nD τ sig) → Buf (Elt Ideal) ℓ) (c : Dev nD) (t : Fin cfg0.N)

/-- Which block every window that the state depends on holds: the only one. -/
theorem idx : ∀ t : Fin cfg0.N, win0_0.index t = ![0, 0, 0] ∧ win0_1.index t = ![0, 0] ∧ win0_2.index t = ![0, 0, 0] ∧ win0_3.index t = ![0, 0] ∧ win0_4.index t = ![0, 0, 0] ∧ win0_5.index t = ![0, 0] ∧ win0_9.index t = ![0, 0] ∧ win0_11.index t = ![0] :=
  (by decide +kernel : ∀ t : Fin grid0.N, _)

theorem iblk_0 : iblk m c 0 t = m ((c : Thread nD τ).loc main_arg0) := by
  blk_ext! [iblk, V, idx t]

theorem iblk_1 : iblk m c 1 t = m ((c : Thread nD τ).loc main_arg1) := by
  blk_ext! [iblk, V, idx t]

theorem iblk_2 : iblk m c 2 t = m ((c : Thread nD τ).loc main_arg2) := by
  blk_ext! [iblk, V, idx t]

theorem iblk_3 : iblk m c 3 t = m ((c : Thread nD τ).loc main_arg3) := by
  blk_ext! [iblk, V, idx t]

theorem iblk_4 : iblk m c 4 t = m ((c : Thread nD τ).loc main_arg4) := by
  blk_ext! [iblk, V, idx t]

theorem iblk_5 : iblk m c 5 t = m ((c : Thread nD τ).loc main_arg5) := by
  blk_ext! [iblk, V, idx t]

theorem iblk_9 : iblk m c 9 t = m ((c : Thread nD τ).loc main_arg9) := by
  blk_ext! [iblk, V, idx t]

theorem iblk_11 : iblk m c 11 t = m ((c : Thread nD τ).loc main_arg11) := by
  blk_ext! [iblk, V, idx t]

end Cert.Proof.ReferenceIdeal.Blocks

end
-- ==== Proof.RefScan.lean ====
module

public import proofs.«01_k».proof.Proof.Gen.ReferenceIdeal.Loops
public import proofs.«01_k».proof.Proof.Gen.ReferenceIdeal.Frame
public import proofs.«01_k».proof.Proof.Gen.ReferenceIdeal.Skeleton
public import Idealize.ShloMosaic.Lib.Pipeline.Frame
public import Idealize.ShloMosaic.Lib.Tactic
public import Idealize.ShloMosaic.Lib.Claim
public import Idealize.ShloMosaic.Lib.ValueIdx
public import Idealize.ShloMosaic.Lib.ValueLayout
public import Idealize.ShloMosaic.Lib.VecWindow

@[expose] public section

set_option maxRecDepth 16384
set_option maxHeartbeats 1000000

noncomputable section

namespace Cert.Proof.ReferenceIdeal

open Cert.ReferenceIdeal Cert.ReferenceIdeal.Gen
open Idealize.ShloMosaic Idealize.ShloMosaic.ValueIdx Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F] [Named F]

local notation "𝕄" => MT nD τ sig Unit (Elt F) ℕ (UR sig nD τ) ℕ

/-- One token's row of a token-major array of channels. -/
def rowC (w : S640x3x1536.Idx → F .f32) (t : ℕ) : S1x3x1536.Idx → F .f32 := fun x => w (ix3 (⟨t % 640, Nat.mod_lt _ (by decide)⟩ : Fin 640) (x 1) (x 2))
/-- One token's row of a token-major array of state coefficients. -/
def rowS (w : S640x3x16.Idx → F .f32) (t : ℕ) : S1x3x16.Idx → F .f32 := fun x => w (ix3 (⟨t % 640, Nat.mod_lt _ (by decide)⟩ : Fin 640) (x 1) (x 2))

section

variable (a : S1536x16.Idx → F .f32) (d u : S640x3x1536.Idx → F .f32) (b c : S640x3x16.Idx → F .f32) (h0 : S3x16x1536.Idx → F .f32)

/-- The state after the first `t` tokens, as the reference steps it. -/
def hR : ℕ → S3x16x1536.Idx → F .f32
  | 0 => h0
  | t + 1 => k0_pay2 a (rowC d t) (hR t) (rowC u t) (rowS b t)

/-- The sums over the state of token `t`, as the reference takes them. -/
def yR (t : ℕ) : S3x1536.Idx → F .f32 := k0_pay3 a (rowC d t) (hR a d u b h0 t) (rowC u t) (rowS b t) (rowS c t)

/-- The sums of the first `t` tokens, over `y0`. -/
def ysR (y0 : S640x3x1536.Idx → F .f32) (t : ℕ) : S640x3x1536.Idx → F .f32 := fun x =>
  if (x 0).val < t then yR a d u b c h0 (x 0).val (ix2 (x 1) (x 2)) else y0 x

end

/-- Contents of a whole memref are what it reads. -/
theorem whole_ext {S : Shape} {e : EltTy} (arg : Memref sig .tc .vmem S e) (h : arg.IsWhole) (f f' : BufTy.Contents (Elt F) arg.view.ty)
    (hh : arg.view.read (Elt F) f = arg.view.read (Elt F) f') : f = f' :=
  (h.eq_unread (X := arg.view.read (Elt F) f') hh).trans (h.eq_unread (X := arg.view.read (Elt F) f') rfl).symm

/-- Writing nothing before the first step, the whole of `w` after it. -/
def wl (S : Shape) (w : ℕ → S.Idx → F .f32) : ℕ → List (View.Piece (Elt F) S .f32)
  | 0 => []
  | k + 1 => [⟨Rect.unit (s := S) (fun _ => 0) S.size (fun a => (Nat.zero_add _).le), w (k + 1)⟩]

theorem read_wl {S : Shape} (arg : Memref sig .tc .vmem S .f32) (G : BufTy.Contents (Elt F) arg.view.ty) (w : ℕ → S.Idx → F .f32)
    (h : arg.view.read (Elt F) G = w 0) : ∀ k, arg.view.read (Elt F) (arg.view.writes (Elt F) G (wl S w k)) = w k
  | 0 => h
  | k + 1 => View.read_writes_full arg.view G _ (w (k + 1)) []

theorem wl_eq {S : Shape} (arg : Memref sig .tc .vmem S .f32) (ha : arg.IsWhole) (G : BufTy.Contents (Elt F) arg.view.ty) (w : ℕ → S.Idx → F .f32)
    (h : arg.view.read (Elt F) G = w 0) (k : ℕ) (f : BufTy.Contents (Elt F) arg.view.ty) (hf : arg.view.read (Elt F) f = w k) :
    f = arg.view.writes (Elt F) G (wl S w k) :=
  whole_ext arg ha _ _ (hf.trans (read_wl arg G w h k).symm)

theorem pay2_congr {a a' : Vec F S1536x16 .f32} {d d' : Vec F S1x3x1536 .f32} {h h' : Vec F S3x16x1536 .f32} {u u' : Vec F S1x3x1536 .f32} {b b' : Vec F S1x3x16 .f32}
    (ea : a = a') (ed : d = d') (eh : h = h') (eu : u = u') (eb : b = b') : k0_pay2 a d h u b = k0_pay2 a' d' h' u' b' := by subst ea ed eh eu eb; rfl

theorem pay3_congr {a a' : Vec F S1536x16 .f32} {d d' : Vec F S1x3x1536 .f32} {h h' : Vec F S3x16x1536 .f32} {u u' : Vec F S1x3x1536 .f32} {b b' c c' : Vec F S1x3x16 .f32}
    (ea : a = a') (ed : d = d') (eh : h = h') (eu : u = u') (eb : b = b') (ec : c = c') : k0_pay3 a d h u b c = k0_pay3 a' d' h' u' b' c' := by subst ea ed eh eu eb ec; rfl

theorem rdC (arg : Memref sig .tc .vmem S640x3x1536 .f32) (X : BufTy.Contents (Elt F) arg.view.ty) (k : ℕ) (hk : k < 640) (off : Fin 3 → ℕ) (e : off = ![k, 0, 0]) (inb) :
    View.readAt (Elt F) arg.view (Rect.unit (s := S640x3x1536) off S1x3x1536.size inb).toLoadRect X = rowC (arg.view.read (Elt F) X) k := by
  subst e
  funext x
  rw [View.readAt_apply]
  unfold rowC
  refine congrArg _ (funext fun a => Fin.ext ?_)
  rw [LoadRect.idx_apply]
  fin_cases a
  · show k + 1 * (x 0).val = k % 640
    rw [Nat.mod_eq_of_lt hk, show (x 0).val = 0 from Nat.lt_one_iff.mp (x 0).isLt]; rfl
  · show 0 + 1 * (x 1).val = (x 1).val
    rw [Nat.one_mul]; exact Nat.zero_add _
  · show 0 + 1 * (x 2).val = (x 2).val
    rw [Nat.one_mul]; exact Nat.zero_add _

theorem rdS (arg : Memref sig .tc .vmem S640x3x16 .f32) (X : BufTy.Contents (Elt F) arg.view.ty) (k : ℕ) (hk : k < 640) (off : Fin 3 → ℕ) (e : off = ![k, 0, 0]) (inb) :
    View.readAt (Elt F) arg.view (Rect.unit (s := S640x3x16) off S1x3x16.size inb).toLoadRect X = rowS (arg.view.read (Elt F) X) k := by
  subst e
  funext x
  rw [View.readAt_apply]
  unfold rowS
  refine congrArg _ (funext fun a => Fin.ext ?_)
  rw [LoadRect.idx_apply]
  fin_cases a
  · show k + 1 * (x 0).val = k % 640
    rw [Nat.mod_eq_of_lt hk, show (x 0).val = 0 from Nat.lt_one_iff.mp (x 0).isLt]; rfl
  · show 0 + 1 * (x 1).val = (x 1).val
    rw [Nat.one_mul]; exact Nat.zero_add _
  · show 0 + 1 * (x 2).val = (x 2).val
    rw [Nat.one_mul]; exact Nat.zero_add _

variable (c : Dev nD) (arg0 : Memref sig .tc .vmem S3x1536x640 .fp8e4m3) (harg0 : arg0.IsWhole) (arg1 : Memref sig .tc .vmem S3x640 .f32) (harg1 : arg1.IsWhole) (arg2 : Memref sig .tc .vmem S3x1536x640 .fp8e4m3) (harg2 : arg2.IsWhole) (arg3 : Memref sig .tc .vmem S3x640 .f32) (harg3 : arg3.IsWhole) (arg4 : Memref sig .tc .vmem S3x16x640 .fp8e4m3) (harg4 : arg4.IsWhole) (arg5 : Memref sig .tc .vmem S3x640 .f32) (harg5 : arg5.IsWhole) (arg6 : Memref sig .tc .vmem S3x16x640 .fp8e4m3) (harg6 : arg6.IsWhole) (arg7 : Memref sig .tc .vmem S3x640 .f32) (harg7 : arg7.IsWhole) (arg8 : Memref sig .tc .vmem S3x1536x640 .bf16) (harg8 : arg8.IsWhole) (arg9 : Memref sig .tc .vmem S1536x16 .f32) (harg9 : arg9.IsWhole) (arg10 : Memref sig .tc .vmem S1536 .f32) (harg10 : arg10.IsWhole) (arg11 : Memref sig .tc .vmem S1536 .f32) (harg11 : arg11.IsWhole) (arg12 : Memref sig .tc .vmem S3x1536x640 .bf16) (harg12 : arg12.IsWhole) (arg13 : Memref sig .tc .vmem S3x16x1536 .f32) (harg13 : arg13.IsWhole) (arg14 : Memref sig .tc .vmem S640x3x1536 .f32) (harg14 : arg14.IsWhole) (arg15 : Memref sig .tc .vmem S640x3x1536 .f32) (harg15 : arg15.IsWhole) (arg16 : Memref sig .tc .vmem S640x3x16 .f32) (harg16 : arg16.IsWhole) (arg17 : Memref sig .tc .vmem S640x3x16 .f32) (harg17 : arg17.IsWhole) (arg18 : Memref sig .tc .vmem S640x3x1536 .f32) (harg18 : arg18.IsWhole)
  (v5 : FVec F S3x1536x640 .f32) (v17 : FVec F S3x16x640 .f32) (v23 : FVec F S3x16x640 .f32) (v27 : FVec F S3x1536x640 .f32) (v30 : FVec F S3x1536x640 .f32) (v32 : IVec S3x1536x640 1) (v35 : FVec F S3x1536x640 .f32)
  (X9 : BufTy.Contents (Elt F) arg9.view.ty) (X14 : BufTy.Contents (Elt F) arg14.view.ty) (X15 : BufTy.Contents (Elt F) arg15.view.ty) (X16 : BufTy.Contents (Elt F) arg16.view.ty) (X17 : BufTy.Contents (Elt F) arg17.view.ty)

set_option warn.classDefReducibility false in
/-- The loop over the tokens. -/
@[sl_loop] def tokenLoop (G13 : BufTy.Contents (Elt F) arg13.view.ty) (G18 : BufTy.Contents (Elt F) arg18.view.ty) :
    LoopInvTy_k0_t1 (F := F) Unit ℕ (UR sig nD τ) ℕ Variants.none c none Set.univ arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 v5 v17 v23 v27 v30 v32 v35 where
  inv := fun k acc => iprop((arg9.view.loc (c : Thread nD τ) ↦[arg9.view.set]{fullShare} X9) ∗ (arg14.view.loc (c : Thread nD τ) ↦[arg14.view.set]{fullShare} X14) ∗ (arg15.view.loc (c : Thread nD τ) ↦[arg15.view.set]{fullShare} X15) ∗ (arg16.view.loc (c : Thread nD τ) ↦[arg16.view.set]{fullShare} X16) ∗ (arg17.view.loc (c : Thread nD τ) ↦[arg17.view.set]{fullShare} X17)
    ∗ (∃ f, (arg13.view.loc (c : Thread nD τ) ↦[arg13.view.set]{fullShare} f) ∗ ⌜f = arg13.view.writes (Elt F) G13 (wl S3x16x1536 (hR (arg9.view.read (Elt F) X9) (arg14.view.read (Elt F) X14) (arg15.view.read (Elt F) X15) (arg16.view.read (Elt F) X16) (arg13.view.read (Elt F) G13)) k)⌝)
    ∗ (∃ f, (arg18.view.loc (c : Thread nD τ) ↦[arg18.view.set]{fullShare} f) ∗ ⌜f = arg18.view.writes (Elt F) G18 (wl S640x3x1536 (ysR (arg9.view.read (Elt F) X9) (arg14.view.read (Elt F) X14) (arg15.view.read (Elt F) X15) (arg16.view.read (Elt F) X16) (arg17.view.read (Elt F) X17) (arg13.view.read (Elt F) G13) (arg18.view.read (Elt F) G18)) k)⌝))
  step := fun k acc => by
    have hk : k.val < 640 := Nat.lt_of_lt_of_le k.isLt k0_t1_abs.2.1
    have b18 : arg18.view.read (Elt F) G18 = ysR (arg9.view.read (Elt F) X9) (arg14.view.read (Elt F) X14) (arg15.view.read (Elt F) X15) (arg16.view.read (Elt F) X16) (arg17.view.read (Elt F) X17) (arg13.view.read (Elt F) G13) (arg18.view.read (Elt F) G18) 0 := funext fun x => (if_neg (Nat.not_lt_zero _)).symm
    iintro ⟨H9, H14, H15, H16, H17, ⟨%f13, H13, %e13⟩, ⟨%f18, H18, %e18⟩⟩
    have r13 := (congrArg (arg13.view.read (Elt F)) e13).trans (read_wl arg13 G13 (hR (arg9.view.read (Elt F) X9) (arg14.view.read (Elt F) X14) (arg15.view.read (Elt F) X15) (arg16.view.read (Elt F) X16) (arg13.view.read (Elt F) G13)) rfl k.val)
    have r18 := (congrArg (arg18.view.read (Elt F)) e18).trans (read_wl arg18 G18 (ysR (arg9.view.read (Elt F) X9) (arg14.view.read (Elt F) X14) (arg15.view.read (Elt F) X15) (arg16.view.read (Elt F) X16) (arg17.view.read (Elt F) X17) (arg13.view.read (Elt F) G13) (arg18.view.read (Elt F) G18)) b18 k.val)
    unfold k0_t1_body
    simp only [k0_part1_eq_skeleton]; unfold k0_part1_skel
    sl_exec
    sl_step
    isplitl [H9]; · iexact H9
    isplitl [H14]; · iexact H14
    isplitl [H15]; · iexact H15
    isplitl [H16]; · iexact H16
    isplitl [H17]; · iexact H17
    isplitl [H13]
    · iexists _; isplitl [H13]; · iexact H13
      ipureintro
      refine wl_eq arg13 harg13 G13 (hR (arg9.view.read (Elt F) X9) (arg14.view.read (Elt F) X14) (arg15.view.read (Elt F) X15) (arg16.view.read (Elt F) X16) (arg13.view.read (Elt F) G13)) rfl (k.val + 1) _ ?_
      refine (View.read_writes_full arg13.view f13 _ _ []).trans ?_
      exact pay2_congr (View.readAt_full arg9.view X9 _) (rdC arg14 X14 k.val hk _ (k0_off1_eq k) _) ((View.readAt_full arg13.view f13 _).trans r13) (rdC arg15 X15 k.val hk _ (k0_off1_eq k) _) (rdS arg16 X16 k.val hk _ (k0_off2_eq k) _)
    · iexists _; isplitl [H18]; · iexact H18
      ipureintro
      refine wl_eq arg18 harg18 G18 (ysR (arg9.view.read (Elt F) X9) (arg14.view.read (Elt F) X14) (arg15.view.read (Elt F) X15) (arg16.view.read (Elt F) X16) (arg17.view.read (Elt F) X17) (arg13.view.read (Elt F) G13) (arg18.view.read (Elt F) G18)) b18 (k.val + 1) _ (funext fun x => ?_)
      by_cases hx : (x 0).val = k.val
      · refine (View.read_writes_cons_unit_of_mem (v := arg18.view) (f := f18) _ _ [] x (ix3 (0 : Fin 1) (x 1) (x 2)) (k0_off1_eq k) (fun a => ?_)).trans ?_
        · fin_cases a
          · exact hx
          · exact (Nat.zero_add _).symm
          · exact (Nat.zero_add _).symm
        · refine (shapeCast_ab_1ab_apply _ _ _ _ _).trans ?_
          refine (congrFun (pay3_congr (View.readAt_full arg9.view X9 _) (rdC arg14 X14 k.val hk _ (k0_off1_eq k) _) ((View.readAt_full arg13.view f13 _).trans r13) (rdC arg15 X15 k.val hk _ (k0_off1_eq k) _) (rdS arg16 X16 k.val hk _ (k0_off2_eq k) _) (rdS arg17 X17 k.val hk _ (k0_off2_eq k) _)) _).trans ?_
          unfold ysR
          rw [if_pos (by omega), hx]
          rfl
      · refine (View.read_writes_cons_unit_of_not_mem (v := arg18.view) (f := f18) _ _ [] x (off' := ![k.val, 0, 0]) (k0_off1_eq k) 0 ?_).trans ?_
        · rcases Nat.lt_or_gt_of_ne hx with h | h
          · exact Or.inl h
          · exact Or.inr h
        · refine (congrFun r18 x).trans ?_
          exact if_congr (by omega) rfl rfl

end Cert.Proof.ReferenceIdeal

end
-- ==== Proof.RefValue.lean ====
module

public import proofs.«01_k».proof.Proof.RefScan
public import proofs.«01_k».proof.Proof.Gen.ReferenceIdeal.Frame
public import proofs.«01_k».proof.Proof.Gen.ReferenceIdeal.Skeleton
public import Idealize.ShloMosaic.Lib.Pipeline.Frame
public import Idealize.ShloMosaic.Lib.Tactic
public import Idealize.ShloMosaic.Lib.Claim
public import Idealize.ShloMosaic.Lib.ValueIdx
public import Idealize.ShloMosaic.Lib.ValueLayout
public import Idealize.ShloMosaic.Lib.VecWindow

@[expose] public section

set_option maxRecDepth 16384
set_option maxHeartbeats 1000000

noncomputable section

namespace Cert.Proof.ReferenceIdeal

open Cert.ReferenceIdeal Cert.ReferenceIdeal.Gen
open Idealize.ShloMosaic Idealize.ShloMosaic.ValueIdx Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F] [Named F]

local notation "𝕄" => MT nD τ sig Unit (Elt F) ℕ (UR sig nD τ) ℕ

/-- The step sizes, token-major. -/
def dRef (x2 : Vec F S3x1536x640 .fp8e4m3) (x3 : Vec F S3x640 .f32) (x11 : Vec F S1536 .f32) : S640x3x1536.Idx → F .f32 := k0_pay12 (k0_pay7 x2 x3 x11) (k0_pay8 x2 x3 x11) (k0_pay9 x2 x3 x11) (k0_pay10 x2 x3 x11)
/-- Step size times input, token-major. -/
def uRef (x0 : Vec F S3x1536x640 .fp8e4m3) (x1 : Vec F S3x640 .f32) (x2 : Vec F S3x1536x640 .fp8e4m3) (x3 : Vec F S3x640 .f32) (x11 : Vec F S1536 .f32) : S640x3x1536.Idx → F .f32 := k0_pay13 (k0_pay4 x0 x1) (k0_pay7 x2 x3 x11) (k0_pay8 x2 x3 x11) (k0_pay9 x2 x3 x11) (k0_pay10 x2 x3 x11)
/-- The input coefficients, token-major. -/
def bRef (x4 : Vec F S3x16x640 .fp8e4m3) (x5 : Vec F S3x640 .f32) : S640x3x16.Idx → F .f32 := k0_pay14 (k0_pay5 x4 x5)
/-- The output coefficients, token-major. -/
def cRef (x6 : Vec F S3x16x640 .fp8e4m3) (x7 : Vec F S3x640 .f32) : S640x3x16.Idx → F .f32 := k0_pay15 (k0_pay6 x6 x7)
/-- The last state, as the reference computes it. -/
def hRef (x0 : Vec F S3x1536x640 .fp8e4m3) (x1 : Vec F S3x640 .f32) (x2 : Vec F S3x1536x640 .fp8e4m3) (x3 : Vec F S3x640 .f32) (x4 : Vec F S3x16x640 .fp8e4m3) (x5 : Vec F S3x640 .f32) (x9 : Vec F S1536x16 .f32) (x11 : Vec F S1536 .f32) : S3x16x1536.Idx → F .f32 := hR x9 (dRef x2 x3 x11) (uRef x0 x1 x2 x3 x11) (bRef x4 x5) (k0_pay16 (F := F)) 640
/-- The sums over the state of every token. -/
def ysRef (x0 : Vec F S3x1536x640 .fp8e4m3) (x1 : Vec F S3x640 .f32) (x2 : Vec F S3x1536x640 .fp8e4m3) (x3 : Vec F S3x640 .f32) (x4 : Vec F S3x16x640 .fp8e4m3) (x5 : Vec F S3x640 .f32) (x6 : Vec F S3x16x640 .fp8e4m3) (x7 : Vec F S3x640 .f32) (x9 : Vec F S1536x16 .f32) (x11 : Vec F S1536 .f32) : S640x3x1536.Idx → F .f32 := fun x => yR x9 (dRef x2 x3 x11) (uRef x0 x1 x2 x3 x11) (bRef x4 x5) (cRef x6 x7) (k0_pay16 (F := F)) (x 0).val (ix2 (x 1) (x 2))
/-- The output, as the reference computes it. -/
def yRef (x0 : Vec F S3x1536x640 .fp8e4m3) (x1 : Vec F S3x640 .f32) (x2 : Vec F S3x1536x640 .fp8e4m3) (x3 : Vec F S3x640 .f32) (x4 : Vec F S3x16x640 .fp8e4m3) (x5 : Vec F S3x640 .f32) (x6 : Vec F S3x16x640 .fp8e4m3) (x7 : Vec F S3x640 .f32) (x8 : Vec F S3x1536x640 .bf16) (x9 : Vec F S1536x16 .f32) (x10 : Vec F S1536 .f32) (x11 : Vec F S1536 .f32) : S3x1536x640.Idx → F .bf16 := k0_pay1 (k0_pay4 x0 x1) (k0_pay18 (ysRef x0 x1 x2 x3 x4 x5 x6 x7 x9 x11)) (k0_pay19 x8) x10

theorem pay12_congr {a a' b b' d d' : FVec F S3x1536x640 .f32} {c c' : IVec S3x1536x640 1} (ea : a = a') (eb : b = b') (ec : c = c') (ed : d = d') :
    k0_pay12 a b c d = k0_pay12 a' b' c' d' := by subst ea eb ec ed; rfl

theorem pay13_congr {v v' a a' b b' d d' : FVec F S3x1536x640 .f32} {c c' : IVec S3x1536x640 1} (ev : v = v') (ea : a = a') (eb : b = b') (ec : c = c') (ed : d = d') :
    k0_pay13 v a b c d = k0_pay13 v' a' b' c' d' := by subst ev ea eb ec ed; rfl

theorem hR_congr {a a' : S1536x16.Idx → F .f32} {d d' u u' : S640x3x1536.Idx → F .f32} {b b' : S640x3x16.Idx → F .f32} {h h' : S3x16x1536.Idx → F .f32}
    (ea : a = a') (ed : d = d') (eu : u = u') (eb : b = b') (eh : h = h') {n : ℕ} : hR a d u b h n = hR a' d' u' b' h' n := by subst ea ed eu eb eh; rfl

/-- After a positive number of steps the whole of the last is read, whatever was written before. -/
theorem read_wl_app {S : Shape} (arg : Memref sig .tc .vmem S .f32) (G : BufTy.Contents (Elt F) arg.view.ty) (w : ℕ → S.Idx → F .f32) (L) (n : ℕ) {k : ℕ} (h : n = k + 1) :
    arg.view.read (Elt F) (arg.view.writes (Elt F) G (wl S w n ++ L)) = w (k + 1) := by
  subst h
  exact View.read_writes_full arg.view G _ (w (k + 1)) L

theorem read_wl_pos {S : Shape} (arg : Memref sig .tc .vmem S .f32) (G : BufTy.Contents (Elt F) arg.view.ty) (w : ℕ → S.Idx → F .f32) (n : ℕ) {k : ℕ} (h : n = k + 1) :
    arg.view.read (Elt F) (arg.view.writes (Elt F) G (wl S w n)) = w (k + 1) := by
  subst h
  exact View.read_writes_full arg.view G _ (w (k + 1)) []

theorem yR_congr {a a' : S1536x16.Idx → F .f32} {d d' u u' : S640x3x1536.Idx → F .f32} {b b' e e' : S640x3x16.Idx → F .f32} {h h' : S3x16x1536.Idx → F .f32}
    (ea : a = a') (ed : d = d') (eu : u = u') (eb : b = b') (ee : e = e') (eh : h = h') {n : ℕ} : yR a d u b e h n = yR a' d' u' b' e' h' n := by subst ea ed eu eb ee eh; rfl

theorem pay1_congr {a a' : FVec F S3x1536x640 .f32} {b b' : FVec F S3x1536x640 .f32} {c c' : FVec F S3x1536x640 .f32} {d d' : Vec F S1536 .f32}
    (ea : a = a') (eb : b = b') (ec : c = c') (ed : d = d') : k0_pay1 a b c d = k0_pay1 a' b' c' d' := by subst ea eb ec ed; rfl

set_option maxHeartbeats 8000000 in
/-- The body on whole memrefs leaves the inputs as they were, and the output and the last state at their values. -/
theorem valueRun (c : Dev nD) (arg0 : Memref sig .tc .vmem S3x1536x640 .fp8e4m3) (harg0 : arg0.IsWhole) (arg1 : Memref sig .tc .vmem S3x640 .f32) (harg1 : arg1.IsWhole) (arg2 : Memref sig .tc .vmem S3x1536x640 .fp8e4m3) (harg2 : arg2.IsWhole) (arg3 : Memref sig .tc .vmem S3x640 .f32) (harg3 : arg3.IsWhole) (arg4 : Memref sig .tc .vmem S3x16x640 .fp8e4m3) (harg4 : arg4.IsWhole) (arg5 : Memref sig .tc .vmem S3x640 .f32) (harg5 : arg5.IsWhole) (arg6 : Memref sig .tc .vmem S3x16x640 .fp8e4m3) (harg6 : arg6.IsWhole) (arg7 : Memref sig .tc .vmem S3x640 .f32) (harg7 : arg7.IsWhole) (arg8 : Memref sig .tc .vmem S3x1536x640 .bf16) (harg8 : arg8.IsWhole) (arg9 : Memref sig .tc .vmem S1536x16 .f32) (harg9 : arg9.IsWhole) (arg10 : Memref sig .tc .vmem S1536 .f32) (harg10 : arg10.IsWhole) (arg11 : Memref sig .tc .vmem S1536 .f32) (harg11 : arg11.IsWhole) (arg12 : Memref sig .tc .vmem S3x1536x640 .bf16) (harg12 : arg12.IsWhole) (arg13 : Memref sig .tc .vmem S3x16x1536 .f32) (harg13 : arg13.IsWhole) (arg14 : Memref sig .tc .vmem S640x3x1536 .f32) (harg14 : arg14.IsWhole) (arg15 : Memref sig .tc .vmem S640x3x1536 .f32) (harg15 : arg15.IsWhole) (arg16 : Memref sig .tc .vmem S640x3x16 .f32) (harg16 : arg16.IsWhole) (arg17 : Memref sig .tc .vmem S640x3x16 .f32) (harg17 : arg17.IsWhole) (arg18 : Memref sig .tc .vmem S640x3x1536 .f32) (harg18 : arg18.IsWhole)
    (x0 : Vec F S3x1536x640 .fp8e4m3) (x1 : Vec F S3x640 .f32) (x2 : Vec F S3x1536x640 .fp8e4m3) (x3 : Vec F S3x640 .f32) (x4 : Vec F S3x16x640 .fp8e4m3) (x5 : Vec F S3x640 .f32) (x6 : Vec F S3x16x640 .fp8e4m3) (x7 : Vec F S3x640 .f32) (x8 : Vec F S3x1536x640 .bf16) (x9 : Vec F S1536x16 .f32) (x10 : Vec F S1536 .f32) (x11 : Vec F S1536 .f32) (E : Set ℕ) (hE : E = Set.univ) (K : PUnit → sProp 𝕄) :
    iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d) ∗ (iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ owns (c : Thread nD τ) arg12 fullShare (yRef x0 x1 x2 x3 x4 x5 x6 x7 x8 x9 x10 x11) ∗ owns (c : Thread nD τ) arg13 fullShare (hRef x0 x1 x2 x3 x4 x5 x9 x11) ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d)) -∗ K ⟨⟩))
      ⊢ wp frame (wpE (defs₀ (F := F)) Variants.none c none) E (cc0_reference (F := F) arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18) K := by
  subst hE
  simp only [cc0_reference_eq_skeleton]; unfold cc0_reference_skel
  simp only [k0_part2_eq_skeleton, k0_part3_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%d12, %f12, -, H12⟩, ⟨%d13, %f13, -, H13⟩, ⟨%d14, %f14, -, H14⟩, ⟨%d15, %f15, -, H15⟩, ⟨%d16, %f16, -, H16⟩, ⟨%d17, %f17, -, H17⟩, ⟨%d18, %f18, -, H18⟩, Hk⟩
  obtain rfl := harg0.eq_unread hf0; obtain rfl := harg1.eq_unread hf1; obtain rfl := harg2.eq_unread hf2; obtain rfl := harg3.eq_unread hf3; obtain rfl := harg4.eq_unread hf4; obtain rfl := harg5.eq_unread hf5; obtain rfl := harg6.eq_unread hf6; obtain rfl := harg7.eq_unread hf7; obtain rfl := harg8.eq_unread hf8; obtain rfl := harg9.eq_unread hf9; obtain rfl := harg10.eq_unread hf10; obtain rfl := harg11.eq_unread hf11
  sl_exec
  sl_step
  iapply Hk
  have l0 : View.readAt (Elt F) arg0.view (Rect.unit (s := S3x1536x640) ![0, 0, 0] S3x1536x640.size inb_S3x1536x640_S3x1536x640_0_0_0).toLoadRect (harg0.unread x0) = x0 := (View.readAt_full _ _ _).trans hf0
  have l1 : View.readAt (Elt F) arg1.view (Rect.unit (s := S3x640) ![0, 0] S3x640.size inb_S3x640_S3x640_0_0).toLoadRect (harg1.unread x1) = x1 := (View.readAt_full _ _ _).trans hf1
  have l2 : View.readAt (Elt F) arg2.view (Rect.unit (s := S3x1536x640) ![0, 0, 0] S3x1536x640.size inb_S3x1536x640_S3x1536x640_0_0_0).toLoadRect (harg2.unread x2) = x2 := (View.readAt_full _ _ _).trans hf2
  have l3 : View.readAt (Elt F) arg3.view (Rect.unit (s := S3x640) ![0, 0] S3x640.size inb_S3x640_S3x640_0_0).toLoadRect (harg3.unread x3) = x3 := (View.readAt_full _ _ _).trans hf3
  have l4 : View.readAt (Elt F) arg4.view (Rect.unit (s := S3x16x640) ![0, 0, 0] S3x16x640.size inb_S3x16x640_S3x16x640_0_0_0).toLoadRect (harg4.unread x4) = x4 := (View.readAt_full _ _ _).trans hf4
  have l5 : View.readAt (Elt F) arg5.view (Rect.unit (s := S3x640) ![0, 0] S3x640.size inb_S3x640_S3x640_0_0).toLoadRect (harg5.unread x5) = x5 := (View.readAt_full _ _ _).trans hf5
  have l6 : View.readAt (Elt F) arg6.view (Rect.unit (s := S3x16x640) ![0, 0, 0] S3x16x640.size inb_S3x16x640_S3x16x640_0_0_0).toLoadRect (harg6.unread x6) = x6 := (View.readAt_full _ _ _).trans hf6
  have l7 : View.readAt (Elt F) arg7.view (Rect.unit (s := S3x640) ![0, 0] S3x640.size inb_S3x640_S3x640_0_0).toLoadRect (harg7.unread x7) = x7 := (View.readAt_full _ _ _).trans hf7
  have l8 : View.readAt (Elt F) arg8.view (Rect.unit (s := S3x1536x640) ![0, 0, 0] S3x1536x640.size inb_S3x1536x640_S3x1536x640_0_0_0).toLoadRect (harg8.unread x8) = x8 := (View.readAt_full _ _ _).trans hf8
  have l9 : View.readAt (Elt F) arg9.view (Rect.unit (s := S1536x16) ![0, 0] S1536x16.size inb_S1536x16_S1536x16_0_0).toLoadRect (harg9.unread x9) = x9 := (View.readAt_full _ _ _).trans hf9
  have l10 : View.readAt (Elt F) arg10.view (Rect.unit (s := S1536) ![0] S1536.size inb_S1536_S1536_0).toLoadRect (harg10.unread x10) = x10 := (View.readAt_full _ _ _).trans hf10
  have l11 : View.readAt (Elt F) arg11.view (Rect.unit (s := S1536) ![0] S1536.size inb_S1536_S1536_0).toLoadRect (harg11.unread x11) = x11 := (View.readAt_full _ _ _).trans hf11
  have hn : Scf.trips k0_t1_loop.lb k0_t1_loop.ub k0_t1_loop.st = 640 := by decide
  isplitl [H0]
  · iexists _; isplitr; · ipureintro; exact harg0.read_unread _
    iexact H0
  isplitl [H1]
  · iexists _; isplitr; · ipureintro; exact harg1.read_unread _
    iexact H1
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H6]
  · iexists _; isplitr; · ipureintro; exact harg6.read_unread _
    iexact H6
  isplitl [H7]
  · iexists _; isplitr; · ipureintro; exact harg7.read_unread _
    iexact H7
  isplitl [H8]
  · iexists _; isplitr; · ipureintro; exact harg8.read_unread _
    iexact H8
  isplitl [H9]
  · iexists _; isplitr; · ipureintro; exact harg9.read_unread _
    iexact H9
  isplitl [H10]
  · iexists _; isplitr; · ipureintro; exact harg10.read_unread _
    iexact H10
  isplitl [H11]
  · iexists _; isplitr; · ipureintro; exact harg11.read_unread _
    iexact H11
  isplitl [H12]
  · iexists _; isplitr; swap; · iexact H12
    ipureintro
    refine (View.read_writes_full arg12.view _ _ _ []).trans ?_
    unfold yRef
    refine pay1_congr (congrArg₂ k0_pay4 l0 l1) (congrArg k0_pay18 ?_) (congrArg k0_pay19 l8) l10
    refine (View.readAt_full arg18.view _ _).trans ((read_wl_pos arg18 _ _ _ hn).trans (funext fun x => (if_pos (x 0).isLt).trans (congrFun (yR_congr hf9 ((View.read_writes_full arg14.view _ _ _ []).trans (pay12_congr (congr (congrArg₂ k0_pay7 l2 l3) l11) (congr (congrArg₂ k0_pay8 l2 l3) l11) (congr (congrArg₂ k0_pay9 l2 l3) l11) (congr (congrArg₂ k0_pay10 l2 l3) l11)))
      ((View.read_writes_full arg15.view _ _ _ []).trans (pay13_congr (congrArg₂ k0_pay4 l0 l1) (congr (congrArg₂ k0_pay7 l2 l3) l11) (congr (congrArg₂ k0_pay8 l2 l3) l11) (congr (congrArg₂ k0_pay9 l2 l3) l11) (congr (congrArg₂ k0_pay10 l2 l3) l11)))
      ((View.read_writes_full arg16.view _ _ _ []).trans (congrArg k0_pay14 (congrArg₂ k0_pay5 l4 l5)))
      ((View.read_writes_full arg17.view _ _ _ []).trans (congrArg k0_pay15 (congrArg₂ k0_pay6 l6 l7))) (View.read_writes_full arg13.view _ _ _ [])) _)))
  isplitl [H13]
  · iexists _; isplitr; swap; · iexact H13
    ipureintro
    refine (read_wl_app arg13 _ _ _ _ hn).trans ?_
    exact hR_congr hf9 ((View.read_writes_full arg14.view _ _ _ []).trans (pay12_congr (congr (congrArg₂ k0_pay7 l2 l3) l11) (congr (congrArg₂ k0_pay8 l2 l3) l11) (congr (congrArg₂ k0_pay9 l2 l3) l11) (congr (congrArg₂ k0_pay10 l2 l3) l11)))
      ((View.read_writes_full arg15.view _ _ _ []).trans (pay13_congr (congrArg₂ k0_pay4 l0 l1) (congr (congrArg₂ k0_pay7 l2 l3) l11) (congr (congrArg₂ k0_pay8 l2 l3) l11) (congr (congrArg₂ k0_pay9 l2 l3) l11) (congr (congrArg₂ k0_pay10 l2 l3) l11)))
      ((View.read_writes_full arg16.view _ _ _ []).trans (congrArg k0_pay14 (congrArg₂ k0_pay5 l4 l5)))
      (View.read_writes_full arg13.view _ _ _ [])
  isplitl [H14]
  · iexists _, _; isplitr; swap; · iexact H14
    ipureintro; rfl
  isplitl [H15]
  · iexists _, _; isplitr; swap; · iexact H15
    ipureintro; rfl
  isplitl [H16]
  · iexists _, _; isplitr; swap; · iexact H16
    ipureintro; rfl
  isplitl [H17]
  · iexists _, _; isplitr; swap; · iexact H17
    ipureintro; rfl
  iexists _, _; isplitr; swap; · iexact H18
  ipureintro; rfl

end Cert.Proof.ReferenceIdeal

end
-- ==== Proof.RefLaunch.lean ====
module

public import proofs.«01_k».proof.Proof.Gen.ReferenceIdeal.Loops
public import proofs.«01_k».proof.Proof.Gen.ReferenceIdeal.Frame
public import proofs.«01_k».proof.Proof.RefValue
public import Idealize.ShloMosaic.Lib.Pipeline.ValueKit
public import Idealize.ShloMosaic.Lib.Pipeline.Frame
public import Idealize.ShloMosaic.Lib.Tactic
public import Idealize.ShloMosaic.Lib.Claim

@[expose] public section

set_option maxRecDepth 16384
set_option maxHeartbeats 1000000

noncomputable section

namespace Cert.Proof.ReferenceIdeal.Value

open Cert.ReferenceIdeal Cert.ReferenceIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-- The pipeline's proof data: every input at its block, and the two outputs at what the body leaves in them. -/
def fdats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => yRef (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t)
    | ⟨13, _⟩ => hRef (iblk m c 0 t) (iblk m c 1 t) (iblk m c 2 t) (iblk m c 3 t) (iblk m c 4 t) (iblk m c 5 t) (iblk m c 9 t) (iblk m c 11 t)
  Φ _ := Pipeline.ΦA spec0 c
  q _ := fullShare
  owed _ := 0

theorem A_eq (c : Dev nD) (w : Fin cfg0.W) : (fdats m 0 c).A w = V m c (Pipeline.arrRef spec0 w) := by
  dsimp only [fdats]
theorem after0_0 (c : Dev nD) (t : Fin cfg0.N) : (fdats m 0 c).after 0 t = iblk m c 0 t := by dsimp only [fdats]
theorem after0_1 (c : Dev nD) (t : Fin cfg0.N) : (fdats m 0 c).after 1 t = iblk m c 1 t := by dsimp only [fdats]
theorem after0_2 (c : Dev nD) (t : Fin cfg0.N) : (fdats m 0 c).after 2 t = iblk m c 2 t := by dsimp only [fdats]
theorem after0_3 (c : Dev nD) (t : Fin cfg0.N) : (fdats m 0 c).after 3 t = iblk m c 3 t := by dsimp only [fdats]
theorem after0_4 (c : Dev nD) (t : Fin cfg0.N) : (fdats m 0 c).after 4 t = iblk m c 4 t := by dsimp only [fdats]
theorem after0_5 (c : Dev nD) (t : Fin cfg0.N) : (fdats m 0 c).after 5 t = iblk m c 5 t := by dsimp only [fdats]
theorem after0_6 (c : Dev nD) (t : Fin cfg0.N) : (fdats m 0 c).after 6 t = iblk m c 6 t := by dsimp only [fdats]
theorem after0_7 (c : Dev nD) (t : Fin cfg0.N) : (fdats m 0 c).after 7 t = iblk m c 7 t := by dsimp only [fdats]
theorem after0_8 (c : Dev nD) (t : Fin cfg0.N) : (fdats m 0 c).after 8 t = iblk m c 8 t := by dsimp only [fdats]
theorem after0_9 (c : Dev nD) (t : Fin cfg0.N) : (fdats m 0 c).after 9 t = iblk m c 9 t := by dsimp only [fdats]
theorem after0_10 (c : Dev nD) (t : Fin cfg0.N) : (fdats m 0 c).after 10 t = iblk m c 10 t := by dsimp only [fdats]
theorem after0_11 (c : Dev nD) (t : Fin cfg0.N) : (fdats m 0 c).after 11 t = iblk m c 11 t := by dsimp only [fdats]
theorem after0_12 (c : Dev nD) (t : Fin cfg0.N) : (fdats m 0 c).after 12 t = yRef (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) := by dsimp only [fdats]
theorem after0_13 (c : Dev nD) (t : Fin cfg0.N) : (fdats m 0 c).after 13 t = hRef (iblk m c 0 t) (iblk m c 1 t) (iblk m c 2 t) (iblk m c 3 t) (iblk m c 4 t) (iblk m c 5 t) (iblk m c 9 t) (iblk m c 11 t) := by dsimp only [fdats]
theorem before0_0 (c : Dev nD) (t : Fin cfg0.N) (d) : (fdats m 0 c).before 0 t d = iblk m c 0 t :=
  before0_0_of m (fdats m 0 c) (A_eq m c 0) (after0_0 m c) t d
theorem before0_1 (c : Dev nD) (t : Fin cfg0.N) (d) : (fdats m 0 c).before 1 t d = iblk m c 1 t :=
  before0_1_of m (fdats m 0 c) (A_eq m c 1) (after0_1 m c) t d
theorem before0_2 (c : Dev nD) (t : Fin cfg0.N) (d) : (fdats m 0 c).before 2 t d = iblk m c 2 t :=
  before0_2_of m (fdats m 0 c) (A_eq m c 2) (after0_2 m c) t d
theorem before0_3 (c : Dev nD) (t : Fin cfg0.N) (d) : (fdats m 0 c).before 3 t d = iblk m c 3 t :=
  before0_3_of m (fdats m 0 c) (A_eq m c 3) (after0_3 m c) t d
theorem before0_4 (c : Dev nD) (t : Fin cfg0.N) (d) : (fdats m 0 c).before 4 t d = iblk m c 4 t :=
  before0_4_of m (fdats m 0 c) (A_eq m c 4) (after0_4 m c) t d
theorem before0_5 (c : Dev nD) (t : Fin cfg0.N) (d) : (fdats m 0 c).before 5 t d = iblk m c 5 t :=
  before0_5_of m (fdats m 0 c) (A_eq m c 5) (after0_5 m c) t d
theorem before0_6 (c : Dev nD) (t : Fin cfg0.N) (d) : (fdats m 0 c).before 6 t d = iblk m c 6 t :=
  before0_6_of m (fdats m 0 c) (A_eq m c 6) (after0_6 m c) t d
theorem before0_7 (c : Dev nD) (t : Fin cfg0.N) (d) : (fdats m 0 c).before 7 t d = iblk m c 7 t :=
  before0_7_of m (fdats m 0 c) (A_eq m c 7) (after0_7 m c) t d
theorem before0_8 (c : Dev nD) (t : Fin cfg0.N) (d) : (fdats m 0 c).before 8 t d = iblk m c 8 t :=
  before0_8_of m (fdats m 0 c) (A_eq m c 8) (after0_8 m c) t d
theorem before0_9 (c : Dev nD) (t : Fin cfg0.N) (d) : (fdats m 0 c).before 9 t d = iblk m c 9 t :=
  before0_9_of m (fdats m 0 c) (A_eq m c 9) (after0_9 m c) t d
theorem before0_10 (c : Dev nD) (t : Fin cfg0.N) (d) : (fdats m 0 c).before 10 t d = iblk m c 10 t :=
  before0_10_of m (fdats m 0 c) (A_eq m c 10) (after0_10 m c) t d
theorem before0_11 (c : Dev nD) (t : Fin cfg0.N) (d) : (fdats m 0 c).before 11 t d = iblk m c 11 t :=
  before0_11_of m (fdats m 0 c) (A_eq m c 11) (after0_11 m c) t d

/-- The invariant with the scratch operands as memrefs owned at some contents. -/
theorem PhiA0_eq (c : Dev nD) :
    (Pipeline.ΦA spec0 c : sProp 𝕄) = iprop(iprop((∃ d, owns (c : Thread nD τ) (Memref.whole cc0_scratch0) fullShare d) ∗ (∃ d, owns (c : Thread nD τ) (Memref.whole cc0_scratch1) fullShare d) ∗ (∃ d, owns (c : Thread nD τ) (Memref.whole cc0_scratch2) fullShare d) ∗ (∃ d, owns (c : Thread nD τ) (Memref.whole cc0_scratch3) fullShare d) ∗ (∃ d, owns (c : Thread nD τ) (Memref.whole cc0_scratch4) fullShare d)) ∗ (∃ r, prngReg c r)) := by
  unfold Pipeline.ΦA; rw [scopedRest0_eq]; simp only [owns_whole]; try rfl

/-- What the body is called with at point `t`, the windows one by one, -/
def bodyPre (c : Dev nD) (t : Fin cfg0.N) : sProp 𝕄 :=
  iprop((fdats m 0 c).Φ t.castSucc ∗ (fdats m 0 c).owesAt () t.castSucc
    ∗ (∃ d, owns (c : Thread nD τ) (win0_0.stage (cfg0.slots t 0)) fullShare ((fdats m 0 c).before 0 t d))
    ∗ (∃ d, owns (c : Thread nD τ) (win0_1.stage (cfg0.slots t 1)) fullShare ((fdats m 0 c).before 1 t d))
    ∗ (∃ d, owns (c : Thread nD τ) (win0_2.stage (cfg0.slots t 2)) fullShare ((fdats m 0 c).before 2 t d))
    ∗ (∃ d, owns (c : Thread nD τ) (win0_3.stage (cfg0.slots t 3)) fullShare ((fdats m 0 c).before 3 t d))
    ∗ (∃ d, owns (c : Thread nD τ) (win0_4.stage (cfg0.slots t 4)) fullShare ((fdats m 0 c).before 4 t d))
    ∗ (∃ d, owns (c : Thread nD τ) (win0_5.stage (cfg0.slots t 5)) fullShare ((fdats m 0 c).before 5 t d))
    ∗ (∃ d, owns (c : Thread nD τ) (win0_6.stage (cfg0.slots t 6)) fullShare ((fdats m 0 c).before 6 t d))
    ∗ (∃ d, owns (c : Thread nD τ) (win0_7.stage (cfg0.slots t 7)) fullShare ((fdats m 0 c).before 7 t d))
    ∗ (∃ d, owns (c : Thread nD τ) (win0_8.stage (cfg0.slots t 8)) fullShare ((fdats m 0 c).before 8 t d))
    ∗ (∃ d, owns (c : Thread nD τ) (win0_9.stage (cfg0.slots t 9)) fullShare ((fdats m 0 c).before 9 t d))
    ∗ (∃ d, owns (c : Thread nD τ) (win0_10.stage (cfg0.slots t 10)) fullShare ((fdats m 0 c).before 10 t d))
    ∗ (∃ d, owns (c : Thread nD τ) (win0_11.stage (cfg0.slots t 11)) fullShare ((fdats m 0 c).before 11 t d))
    ∗ (∃ d, owns (c : Thread nD τ) (win0_12.stage (cfg0.slots t 12)) fullShare ((fdats m 0 c).before 12 t d))
    ∗ (∃ d, owns (c : Thread nD τ) (win0_13.stage (cfg0.slots t 13)) fullShare ((fdats m 0 c).before 13 t d)))

/-- and what it returns. -/
def bodyPost (c : Dev nD) (t : Fin cfg0.N) : sProp 𝕄 :=
  iprop((fdats m 0 c).Φ t.succ ∗ (fdats m 0 c).owesAt () t.succ
    ∗ owns (c : Thread nD τ) (win0_0.stage (cfg0.slots t 0)) fullShare ((fdats m 0 c).after 0 t)
    ∗ owns (c : Thread nD τ) (win0_1.stage (cfg0.slots t 1)) fullShare ((fdats m 0 c).after 1 t)
    ∗ owns (c : Thread nD τ) (win0_2.stage (cfg0.slots t 2)) fullShare ((fdats m 0 c).after 2 t)
    ∗ owns (c : Thread nD τ) (win0_3.stage (cfg0.slots t 3)) fullShare ((fdats m 0 c).after 3 t)
    ∗ owns (c : Thread nD τ) (win0_4.stage (cfg0.slots t 4)) fullShare ((fdats m 0 c).after 4 t)
    ∗ owns (c : Thread nD τ) (win0_5.stage (cfg0.slots t 5)) fullShare ((fdats m 0 c).after 5 t)
    ∗ owns (c : Thread nD τ) (win0_6.stage (cfg0.slots t 6)) fullShare ((fdats m 0 c).after 6 t)
    ∗ owns (c : Thread nD τ) (win0_7.stage (cfg0.slots t 7)) fullShare ((fdats m 0 c).after 7 t)
    ∗ owns (c : Thread nD τ) (win0_8.stage (cfg0.slots t 8)) fullShare ((fdats m 0 c).after 8 t)
    ∗ owns (c : Thread nD τ) (win0_9.stage (cfg0.slots t 9)) fullShare ((fdats m 0 c).after 9 t)
    ∗ owns (c : Thread nD τ) (win0_10.stage (cfg0.slots t 10)) fullShare ((fdats m 0 c).after 10 t)
    ∗ owns (c : Thread nD τ) (win0_11.stage (cfg0.slots t 11)) fullShare ((fdats m 0 c).after 11 t)
    ∗ owns (c : Thread nD τ) (win0_12.stage (cfg0.slots t 12)) fullShare ((fdats m 0 c).after 12 t)
    ∗ owns (c : Thread nD τ) (win0_13.stage (cfg0.slots t 13)) fullShare ((fdats m 0 c).after 13 t))

set_option maxHeartbeats 1600000 in
/-- The body at any point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8, before0_9, before0_10, before0_11]
  rw [show (fdats m 0 c).Φ t.succ = (fdats m 0 c).Φ t.castSucc from rfl,
    show (fdats m 0 c).owesAt () t.succ = (fdats m 0 c).owesAt () t.castSucc from rfl,
    after0_0, after0_1, after0_2, after0_3, after0_4, after0_5, after0_6, after0_7, after0_8, after0_9, after0_10, after0_11, after0_12, after0_13]
  rw [show (fdats m 0 c).Φ t.castSucc = Pipeline.ΦA spec0 c from rfl, PhiA0_eq]
  iintro ⟨⟨⟨HS0, HS1, HS2, HS3, HS4⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩⟩
  iapply (valueRun c _ _ _ _ _ _ _ _ _ _ _ _ _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) Set.univ rfl _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexists _; iexact H12
  isplitl [H13]; · iexists _; iexact H13
  isplitl [HS0]; · iexact HS0
  isplitl [HS1]; · iexact HS1
  isplitl [HS2]; · iexact HS2
  isplitl [HS3]; · iexact HS3
  isplitl [HS4]; · iexact HS4
  iintro ⟨H0, H1, H2, H3, H4, H5, H6, H7, H8, H9, H10, H11, H12, H13, HS0, HS1, HS2, HS3, HS4⟩
  isplitl [HS0 HS1 HS2 HS3 HS4 Hg]
  · isplitl [HS0 HS1 HS2 HS3 HS4]
    · isplitl [HS0]
      · iexact HS0
      isplitl [HS1]
      · iexact HS1
      isplitl [HS2]
      · iexact HS2
      isplitl [HS3]
      · iexact HS3
      iexact HS4
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  iexact H13

theorem defs₀_row (t : Fin cfg0.N) :
    defs₀ (F := F) .tc cfg0.body (cfg0.bodyArgs t (cfg0.slots t)) = bodyAt0 t := by
  unfold defs₀; rw [Defs.onTc_tc]

/-- The body obligation at every point. -/
theorem body_obligation (c : Dev nD) : BodyObligation (fdats (F := F) m 0 c) (defs₀ (F := F)) Variants.none () Set.univ := fun t => by
  rw [bigSep_W0, bigSep_W0, defs₀_row]
  exact triple_restated (sound_body m c t) rfl .rfl fun _ => .rfl

set_option backward.isDefEq.respectTransparency.types false in
/-- The launch: every execution terminates, with the inputs unchanged and every counter at zero. -/
theorem run_main_quiescent : θ_run defs (onTc (τ := τ) (main (F := F))) (s₀ m ρ) (fun r => (Pipeline.FramePost cfgs (fdats m) (0 : Fin 1) (V m)) r ∧ r.2.sem = fun _ => 0) :=
  Pipeline.θ_run_frame (Q' := _) cfgs (fdats m) (0 : Fin 1) launch0 defs₀ Variants.none m ρ main
    (hbody := fun c => (body_obligation m c).loose) (hshare := fun c => (fdats m 0 c).share_full fun _ => rfl)
    (howed := fun _ _ => rfl) (V := V m) (hmain := hmain m Variants.none) (hA := A_eq m) (hΦ := fun _ _ => rfl)

theorem arr_12 (c : Dev nD) : (fdats m 0 c).arrAt 12 cfg0.N = (fdats m 0 c).after 12 t0_0 := by
  refine (fdats m 0 c).arrAt_eq_of_after_last 12 t0_0 (by decide +kernel) _ fun j => ?_
  blk_simp

theorem arr_13 (c : Dev nD) : (fdats m 0 c).arrAt 13 cfg0.N = (fdats m 0 c).after 13 t0_0 := by
  refine (fdats m 0 c).arrAt_eq_of_after_last 13 t0_0 (by decide +kernel) _ fun j => ?_
  blk_simp

/-- Every execution terminates without fault, with the two results as named and the arguments unchanged. -/
theorem run_value : θ_run defs (onTc (τ := τ) (main (F := F))) ⟨m, fun _ => 0, ρ⟩ (fun r => (∀ c : Dev nD,
      r.2.mem ((c.tc : Thread nD τ).loc main_v0_0) = (yRef (iblk m c 0 t0_0) (iblk m c 1 t0_0) (iblk m c 2 t0_0) (iblk m c 3 t0_0) (iblk m c 4 t0_0) (iblk m c 5 t0_0) (iblk m c 6 t0_0) (iblk m c 7 t0_0) (iblk m c 8 t0_0) (iblk m c 9 t0_0) (iblk m c 10 t0_0) (iblk m c 11 t0_0) : Vec F S3x1536x640 .bf16)
      ∧ r.2.mem ((c.tc : Thread nD τ).loc main_v0_1) = (hRef (iblk m c 0 t0_0) (iblk m c 1 t0_0) (iblk m c 2 t0_0) (iblk m c 3 t0_0) (iblk m c 4 t0_0) (iblk m c 5 t0_0) (iblk m c 9 t0_0) (iblk m c 11 t0_0) : Vec F S3x16x1536 .f32)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) ∧ r.2.sem = fun _ => 0) :=
  (θ_run defs _ _).mono (fun _ hh => ⟨fun c => have h := hh.1; ⟨(h.out_eq c 12).trans ((arr_12 m c).trans (after0_12 m c _)),
    (h.out_eq c 13).trans ((arr_13 m c).trans (after0_13 m c _)),
    (h.in_eq c 0 rfl).trans ((A_eq m c 0).trans (V_main_arg0 m c)),
    (h.in_eq c 1 rfl).trans ((A_eq m c 1).trans (V_main_arg1 m c)),
    (h.in_eq c 2 rfl).trans ((A_eq m c 2).trans (V_main_arg2 m c)),
    (h.in_eq c 3 rfl).trans ((A_eq m c 3).trans (V_main_arg3 m c)),
    (h.in_eq c 4 rfl).trans ((A_eq m c 4).trans (V_main_arg4 m c)),
    (h.in_eq c 5 rfl).trans ((A_eq m c 5).trans (V_main_arg5 m c)),
    (h.in_eq c 6 rfl).trans ((A_eq m c 6).trans (V_main_arg6 m c)),
    (h.in_eq c 7 rfl).trans ((A_eq m c 7).trans (V_main_arg7 m c)),
    (h.in_eq c 8 rfl).trans ((A_eq m c 8).trans (V_main_arg8 m c)),
    (h.in_eq c 9 rfl).trans ((A_eq m c 9).trans (V_main_arg9 m c)),
    (h.in_eq c 10 rfl).trans ((A_eq m c 10).trans (V_main_arg10 m c)),
    (h.in_eq c 11 rfl).trans ((A_eq m c 11).trans (V_main_arg11 m c))⟩, hh.2⟩) (run_main_quiescent m ρ)

end Cert.Proof.ReferenceIdeal.Value

end
-- ==== Proof.Softplus.lean ====
/-
  The step size's nonlinearity on extended reals: the kernel works in base two, scaled by the base-two logarithm of e,
  the reference in base e; the two agree up to that factor.
-/
module

public import Idealize.ShloMosaic.PureOps.Ideal
public import Idealize.ShloMosaic.PureOps.IdealRules
public import Idealize.ShloMosaic.Lib.IdealHost

@[expose] public section

noncomputable section

namespace Cert.Proof

open Idealize.ShloMosaic

/-- The base-two logarithm of e. -/
def lg : EReal := (((Real.log 2)⁻¹ : ℝ) : EReal)

theorem log2_pos : 0 < Real.log 2 := Real.log_pos one_lt_two
theorem lg_nonneg : 0 ≤ lg := EReal.coe_nonneg.mpr (inv_nonneg.mpr log2_pos.le)
theorem lg_ne_top : lg ≠ ⊤ := EReal.coe_ne_top _

theorem log_lg : ((Real.log 2 : ℝ) : EReal) * lg = 1 := by
  unfold lg
  rw [← EReal.coe_mul, mul_inv_cancel₀ log2_pos.ne', EReal.coe_one]

/-- `lg` scales a sum term by term. -/
theorem lg_add (x y : EReal) : lg * (x + y) = lg * x + lg * y := EReal.left_distrib_of_nonneg_of_ne_top lg_nonneg lg_ne_top x y

theorem lg_max (x y : EReal) : max (lg * x) (lg * y) = lg * max x y := by
  have h : Monotone fun z : EReal => lg * z := fun a b hab => mul_le_mul_of_nonneg_left hab lg_nonneg
  exact (h.map_max (a := x) (b := y)).symm

/-- A power of two of the scaled argument is the exponential. -/
theorem exp2_lg (x : EReal) : Ideal.exp2 (lg * x) = Ideal.exp x := by
  have hp : 0 < (Real.log 2)⁻¹ := inv_pos.mpr log2_pos
  induction x with
  | bot => rw [show lg * (⊥ : EReal) = ⊥ from EReal.coe_mul_bot_of_pos hp]; rfl
  | top => rw [show lg * (⊤ : EReal) = ⊤ from EReal.coe_mul_top_of_pos hp]; rfl
  | coe r =>
    unfold lg
    rw [← EReal.coe_mul, Ideal.exp2_coe, Ideal.exp_coe]
    congr 1
    show (2 : ℝ) ^ ((Real.log 2)⁻¹ * r) = Real.exp r
    rw [Real.rpow_def_of_pos two_pos, ← mul_assoc, mul_inv_cancel₀ log2_pos.ne', one_mul]

/-- The cap on the exponential's argument. -/
def cap : EReal := ((64 * Real.log 2 : ℝ) : EReal)

theorem lg_min_cap (x : EReal) : min (lg * x) ((64 : ℝ) : EReal) = lg * min x cap := by
  have h : Monotone fun z : EReal => lg * z := fun a b hab => mul_le_mul_of_nonneg_left hab lg_nonneg
  have hc : ((64 : ℝ) : EReal) = lg * cap := by
    unfold lg cap
    rw [← EReal.coe_mul]
    congr 1
    rw [mul_comm, mul_assoc, mul_inv_cancel₀ log2_pos.ne', mul_one]
  rw [hc]
  exact (h.map_min (a := x) (b := cap)).symm

/-- The capped exponential is a real number. -/
theorem exp_cap_real (x : EReal) : ∃ r : ℝ, Ideal.exp (min x cap) = (r : EReal) := by
  induction x with
  | bot => exact ⟨0, by rw [min_eq_left bot_le]; rfl⟩
  | top => exact ⟨_, by rw [min_eq_right le_top]; rfl⟩
  | coe r =>
    rcases min_choice (r : EReal) cap with h | h
    · exact ⟨_, by rw [h]; rfl⟩
    · exact ⟨_, by rw [h]; rfl⟩

/-- The reference's softplus, from the threshold `th` under which it takes two terms of the series. -/
def spRef (th : EReal) (v : EReal) : EReal :=
  max (if Ideal.exp (min v cap) < th then
      Ideal.exp (min v cap) - ((1 / 2 : ℝ) : EReal) * (Ideal.exp (min v cap) * Ideal.exp (min v cap))
    else Ideal.log1p (Ideal.exp (min v cap))) v

/-- The kernel's softplus, of a scaled argument. -/
def spKer (th : EReal) (w : EReal) : EReal :=
  max (if Ideal.exp2 (min w ((64 : ℝ) : EReal)) < th then
      Ideal.exp2 (min w ((64 : ℝ) : EReal)) * (lg - ((2⁻¹ * (Real.log 2)⁻¹ : ℝ) : EReal) * Ideal.exp2 (min w ((64 : ℝ) : EReal)))
    else Ideal.log (1 + Ideal.exp2 (min w ((64 : ℝ) : EReal))) * lg) w

/-- The kernel's softplus of the scaled argument is the reference's, scaled. -/
theorem spKer_lg (th v : EReal) : spKer th (lg * v) = lg * spRef th v := by
  unfold spKer spRef
  rw [lg_min_cap, exp2_lg, ← lg_max]
  congr 1
  obtain ⟨r, hr⟩ := exp_cap_real v
  rw [hr]
  split_ifs with h
  · unfold lg
    rw [← EReal.coe_mul, ← EReal.coe_sub, ← EReal.coe_mul, ← EReal.coe_mul, ← EReal.coe_mul, ← EReal.coe_sub, ← EReal.coe_mul]
    congr 1
    ring
  · rw [mul_comm]; rfl

theorem ofBits_half : Ideal.ofBits .f32 0x3F000000#32 = ((1 / 2 : ℝ) : EReal) := by
  simp [Ideal.ofBits, Ideal.ieee, -EReal.coe_mul]; norm_num

theorem ofBits_64 : Ideal.ofBits .f32 0x42800000#32 = ((64 : ℝ) : EReal) := by
  simp [Ideal.ofBits, Ideal.ieee, -EReal.coe_mul]; norm_num

/-- One channel's decay rate and its exponent: the kernel's scaled step size under a power of two. -/
theorem decay (d a : EReal) : Ideal.exp2 (lg * d * a) = Ideal.exp (d * a) := by rw [mul_assoc, exp2_lg]

/-- The scale cancels in the products that enter the state. -/
theorem enter (d x b s : EReal) : lg * d * x * (b * (s * ((Real.log 2 : ℝ) : EReal))) = d * x * (b * s) := by
  have e : lg * d * x * (b * (s * ((Real.log 2 : ℝ) : EReal))) = (((Real.log 2 : ℝ) : EReal) * lg) * (d * x * (b * s)) := by ac_rfl
  rw [e, log_lg, one_mul]

end Cert.Proof

end
-- ==== Proof.KerIdeal.lean ====
/-
  The kernel's tiles at extended reals, element by element.
-/
module

public import proofs.«01_k».proof.Proof.Gen.KernelIdeal.Skeleton
public import proofs.«01_k».proof.Proof.Softplus
public import Idealize.ShloMosaic.Lib.Pointwise

@[expose] public section

set_option maxRecDepth 16384

noncomputable section

namespace Cert.Proof.KernelIdeal

open Cert.KernelIdeal Cert.KernelIdeal.Gen
open Idealize.ShloMosaic Cert.Proof

/-- The comparison's threshold. -/
def th : EReal := Ideal.ofBits .f32 0x3B000000#32

theorem log2_e_named : (Named.named (F := Ideal) κ "log2_e" (φ := .f32) 0x3FB8AA3B#32) = lg := IdealRules.named_const.ideal_named_scalar _ _ _ _ rfl
theorem half_log2_e_named : (Named.named (F := Ideal) κ "half_log2_e" (φ := .f32) 0x3F38AA3B#32) = ((2⁻¹ * (Real.log 2)⁻¹ : ℝ) : EReal) :=
  IdealRules.named_const.ideal_named_scalar _ _ _ _ rfl
theorem log_2_named : (Named.named (F := Ideal) κ "log_2" (φ := .f32) 0x3F317218#32) = ((Real.log 2 : ℝ) : EReal) := IdealRules.named_const.ideal_named_scalar _ _ _ _ rfl

theorem eq_word : ∀ a b : Fin 128, IntOp.cmpi .eq (BitVec.ofNat 32 a.val) (BitVec.ofNat 32 b.val) = if a = b then 1#1 else 0#1 := by decide +kernel

theorem eye_apply (a b : Fin 128) : (k0_pay489 (F := Ideal)) (ix2 a b) = if a = b then 1 else 0 := by
  pointwise [k0_pay489]
  rw [eq_word a b]
  split_ifs
  · exact if_pos rfl
  · exact if_neg (by decide)

/-- The product with the identity is the transpose. -/
theorem transpose_apply (X : FVec Ideal S256x128 .fp8e4m3) (t : Fin 128) (l : Fin 256) : k0_pay544 k0_pay489 X (ix2 t l) = X (ix2 l t) := by
  pointwise [k0_pay544, dot_S128x128_S256x128_S128x256_1_1_0_0_n_n, eye_apply]
  rw [Finset.sum_eq_single t (fun x _ hx => by rw [if_neg (Ne.symm hx), zero_mul]) (fun h => absurd (Finset.mem_univ t) h), if_pos rfl, one_mul]

theorem d0_apply (X : FVec Ideal S256x128 .fp8e4m3) (s b : Vec Ideal S1x128 .f32) (t l : Fin 128) :
    k0_pay547 k0_pay489 (k0_pay493 s) X b (ix3 (0 : Fin 1) t l)
      = spKer th (X (ix2 ⟨l.val, by omega⟩ t) * (s (ix2 (0 : Fin 1) t) * lg) + b (ix2 (0 : Fin 1) l) * lg) := by
  pointwise [k0_pay547, k0_pay545, k0_pay493, transpose_apply, log2_e_named, half_log2_e_named, ofBits_64]
  rfl

theorem d1_apply (X : FVec Ideal S256x128 .fp8e4m3) (s b : Vec Ideal S1x128 .f32) (t l : Fin 128) :
    k0_pay552 (k0_pay493 s) (k0_pay544 k0_pay489 X) b (ix3 (0 : Fin 1) t l)
      = spKer th (X (ix2 ⟨128 + l.val, by omega⟩ t) * (s (ix2 (0 : Fin 1) t) * lg) + b (ix2 (0 : Fin 1) l) * lg) := by
  pointwise [k0_pay552, k0_pay550, k0_pay493, transpose_apply, log2_e_named, half_log2_e_named, ofBits_64]
  rfl

theorem u0_apply (Xx X : FVec Ideal S256x128 .fp8e4m3) (sx s b : Vec Ideal S1x128 .f32) (t l : Fin 128) :
    k0_pay548 k0_pay489 (k0_pay492 sx) (k0_pay493 s) (k0_pay544 k0_pay489 Xx) X b (ix3 (0 : Fin 1) t l)
      = k0_pay547 k0_pay489 (k0_pay493 s) X b (ix3 (0 : Fin 1) t l) * (Xx (ix2 ⟨l.val, by omega⟩ t) * sx (ix2 (0 : Fin 1) t)) := by
  pointwise [k0_pay548, k0_pay547, k0_pay546, k0_pay492, transpose_apply]

theorem u1_apply (Xx X : FVec Ideal S256x128 .fp8e4m3) (sx s b : Vec Ideal S1x128 .f32) (t l : Fin 128) :
    k0_pay553 (k0_pay492 sx) (k0_pay493 s) (k0_pay544 k0_pay489 Xx) (k0_pay544 k0_pay489 X) b (ix3 (0 : Fin 1) t l)
      = k0_pay552 (k0_pay493 s) (k0_pay544 k0_pay489 X) b (ix3 (0 : Fin 1) t l) * (Xx (ix2 ⟨128 + l.val, by omega⟩ t) * sx (ix2 (0 : Fin 1) t)) := by
  pointwise [k0_pay553, k0_pay552, k0_pay551, k0_pay492, transpose_apply]

theorem b_apply (X : Vec Ideal S1x16x128 .fp8e4m3) (s : Vec Ideal S1x128 .f32) (n : Fin 16) (t : Fin 128) :
    k0_pay490 X s (ix2 n t) = X (ix3 (0 : Fin 1) n t) * (s (ix2 (0 : Fin 1) t) * ((Real.log 2 : ℝ) : EReal)) := by
  pointwise [k0_pay490, log_2_named]

theorem a_apply (X : Vec Ideal S8x128 .f32) (r : Fin 8) (l : Fin 128) : k0_pay5 X (ix3 (0 : Fin 1) r l) = 0 - Ideal.exp (X (ix2 r l)) := by
  pointwise [k0_pay5]

theorem zero_apply (i) : (k0_pay488 (F := Ideal)) i = 0 := by
  pointwise [k0_pay488]

end Cert.Proof.KernelIdeal

end
-- ==== Proof.RefIdeal.lean ====
/-
  The reference's scan at extended reals, element by element.
-/
module

public import proofs.«01_k».proof.Proof.RefValue
public import proofs.«01_k».proof.Proof.Softplus
public import Idealize.ShloMosaic.Lib.Pointwise

@[expose] public section

set_option maxRecDepth 16384

noncomputable section

namespace Cert.Proof.ReferenceIdeal.Value

open Cert.ReferenceIdeal Cert.ReferenceIdeal.Gen
open Idealize.ShloMosaic Cert.Proof

variable (x0 : Vec Ideal S3x1536x640 .fp8e4m3) (x1 : Vec Ideal S3x640 .f32) (x2 : Vec Ideal S3x1536x640 .fp8e4m3) (x3 : Vec Ideal S3x640 .f32)
  (x4 : Vec Ideal S3x16x640 .fp8e4m3) (x5 : Vec Ideal S3x640 .f32) (x9 : Vec Ideal S1536x16 .f32) (x11 : Vec Ideal S1536 .f32)

/-- The comparison's threshold. -/
def th : EReal := Ideal.ofBits .f32 0x3B000000#32

theorem exp_cap_named : (Named.named (F := Ideal) κ "exp_cap" (φ := .f32) 0x42317218#32) = cap := IdealRules.named_const.ideal_named_scalar _ _ _ _ rfl

theorem d_apply (t : Fin 640) (b : Fin 3) (c : Fin 1536) :
    dRef x2 x3 x11 (ix3 t b c) = spRef th (x2 (ix3 b c t) * x3 (ix2 b t) + x11 (ix1 c)) := by
  unfold dRef
  pointwise [k0_pay12, k0_pay11, k0_pay10, k0_pay9, k0_pay8, k0_pay7, exp_cap_named, ofBits_half]
  rfl

theorem u_apply (t : Fin 640) (b : Fin 3) (c : Fin 1536) :
    uRef x0 x1 x2 x3 x11 (ix3 t b c) = spRef th (x2 (ix3 b c t) * x3 (ix2 b t) + x11 (ix1 c)) * (x0 (ix3 b c t) * x1 (ix2 b t)) := by
  unfold uRef
  pointwise [k0_pay13, k0_pay4, k0_pay11, k0_pay10, k0_pay9, k0_pay8, k0_pay7, exp_cap_named, ofBits_half]
  rfl

theorem b_apply (t : Fin 640) (b : Fin 3) (n : Fin 16) : bRef x4 x5 (ix3 t b n) = x4 (ix3 b n t) * x5 (ix2 b t) := by
  unfold bRef
  pointwise [k0_pay14, k0_pay5]

theorem step_apply (a : Vec Ideal S1536x16 .f32) (d u : Vec Ideal S1x3x1536 .f32) (h : Vec Ideal S3x16x1536 .f32) (w : Vec Ideal S1x3x16 .f32) (b : Fin 3) (n : Fin 16) (c : Fin 1536) :
    k0_pay2 a d h u w (ix3 b n c) = Ideal.exp (d (ix3 (0 : Fin 1) b c) * (0 - Ideal.exp (a (ix2 c n)))) * h (ix3 b n c) + u (ix3 (0 : Fin 1) b c) * w (ix3 (0 : Fin 1) b n) := by
  pointwise [k0_pay2]

theorem zero_apply (i) : (k0_pay16 (F := Ideal)) i = 0 := by
  pointwise [k0_pay16]

end Cert.Proof.ReferenceIdeal.Value

end
-- ==== Proof.Equation.lean ====
/-
  The kernel's scan and the reference's: chunk by chunk, token by token, the two states are the same extended reals.
-/
module

public import proofs.«01_k».proof.Proof.BodySpec
public import proofs.«01_k».proof.Proof.KerIdeal
public import proofs.«01_k».proof.Proof.RefIdeal

@[expose] public section

set_option maxRecDepth 16384

noncomputable section

namespace Cert.Proof.KernelIdeal

open Cert.KernelIdeal Cert.KernelIdeal.Gen
open Idealize.ShloMosaic Cert.Proof

theorem vix2 {a b : ℕ} (x : Fin a) (y : Fin b) : ValueIdx.ix2 x y = ix2 x y := by
  funext d; match d with | ⟨0, _⟩ => rfl | ⟨1, _⟩ => rfl
theorem vix3 {a b c : ℕ} (x : Fin a) (y : Fin b) (z : Fin c) : ValueIdx.ix3 x y z = ix3 x y z := by
  funext d; match d with | ⟨0, _⟩ => rfl | ⟨1, _⟩ => rfl | ⟨2, _⟩ => rfl
theorem vix4 {a b c e : ℕ} (x : Fin a) (y : Fin b) (z : Fin c) (w : Fin e) : ValueIdx.ix4 x y z w = ix4 x y z w := by
  funext d; match d with | ⟨0, _⟩ => rfl | ⟨1, _⟩ => rfl | ⟨2, _⟩ => rfl | ⟨3, _⟩ => rfl

/-- The channel of lane `l` in channel block `k`. -/
def chan (k : Fin 12) (l : Fin 128) : Fin 1536 := ⟨128 * k.val + l.val, by omega⟩
/-- The token at position `τ` of chunk `cc`. -/
def tok (cc : Fin 5) (τ : Fin 128) : Fin 640 := ⟨128 * cc.val + τ.val, by omega⟩

section
variable (i : grid0.Coords) (x2 : Vec Ideal S1x1536x128 .fp8e4m3) (x3 : Vec Ideal S3x128 .f32) (x4 : Vec Ideal S1x1536x128 .fp8e4m3) (x5 : Vec Ideal S3x128 .f32)
  (x6 : Vec Ideal S1x16x128 .fp8e4m3) (x7 : Vec Ideal S3x128 .f32) (x8 : Vec Ideal S1x16x128 .fp8e4m3) (x9 : Vec Ideal S3x128 .f32) (x11 : Vec Ideal S16x1536 .f32) (x13 : Vec Ideal S12x128 .f32)

theorem cast256 (X : Vec Ideal S1x256x128 .fp8e4m3) (r : Fin 256) (t : Fin 128) :
    shapeCast S256x128 X shapeCasts_S1x256x128_S256x128 (ix2 r t) = X (ix3 (0 : Fin 1) r t) := by
  pointwise []

theorem X256_apply (x : Vec Ideal S1x1536x128 .fp8e4m3) (k : Fin 12) (r : Fin 256) (t l : Fin 128) (h : r.val = 128 * (k.val % 2) + l.val) :
    X256 x (k.val / 2) (ix3 (0 : Fin 1) r t) = x (ix3 (0 : Fin 1) (chan k l) t) :=
  congrArg x ((vix3 (0 : Fin 1) _ t).trans (congrArg (fun c => ix3 (0 : Fin 1) c t)
    (Fin.ext (by show 256 * (k.val / 2 % 6) + r.val = 128 * k.val + l.val; omega))))

theorem row12_apply (x : Vec Ideal S12x128 .f32) (k : Fin 12) (l : Fin 128) : row12 x k.val (ix2 (0 : Fin 1) l) = x (ix2 k l) :=
  congrArg x ((vix2 _ l).trans (congrArg (fun c => ix2 c l) (Fin.ext (Nat.mod_eq_of_lt k.isLt))))

theorem row3_apply (x : Vec Ideal S3x128 .f32) (b : Fin 3) (l : Fin 128) : row3 x b (ix2 (0 : Fin 1) l) = x (ix2 b l) :=
  congrArg x (vix2 b l)

theorem row3_at (x : Vec Ideal S3x128 .f32) (i : grid0.Coords) (l : Fin 128) : row3 x (i 0) (ix2 (0 : Fin 1) l) = x (ix2 (i 0) l) :=
  row3_apply x (i 0) l

/-- The step size's tile. -/
theorem dTile_apply (k : Fin 12) (t l : Fin 128) :
    dTile k.val (X256 x4 (k.val / 2)) (row3 x5 (i 0)) (row12 x13 k.val) (ix3 (0 : Fin 1) t l)
      = spKer th (x4 (ix3 (0 : Fin 1) (chan k l) t) * (x5 (ix2 (i 0) t) * lg) + x13 (ix2 k l) * lg) := by
  unfold dTile
  split_ifs with h
  · rw [d0_apply, cast256, X256_apply x4 k _ t l (by show l.val = _; omega), row12_apply, row3_at]
  · rw [d1_apply, cast256, X256_apply x4 k _ t l (by show 128 + l.val = _; omega), row12_apply, row3_at]

theorem dV_apply (k : Fin 12) (t l : Fin 128) : dV i x4 x5 x13 (ValueIdx.ix3 k t l)
      = spKer th (x4 (ix3 (0 : Fin 1) (chan k l) t) * (x5 (ix2 (i 0) t) * lg) + x13 (ix2 k l) * lg) := by
  unfold dV
  rw [vix3]
  exact dTile_apply i x4 x5 x13 k t l

theorem uTile_apply (k : Fin 12) (t l : Fin 128) :
    uTile k.val (X256 x2 (k.val / 2)) (X256 x4 (k.val / 2)) (row3 x3 (i 0)) (row3 x5 (i 0)) (row12 x13 k.val) (ix3 (0 : Fin 1) t l)
      = dTile k.val (X256 x4 (k.val / 2)) (row3 x5 (i 0)) (row12 x13 k.val) (ix3 (0 : Fin 1) t l) * (x2 (ix3 (0 : Fin 1) (chan k l) t) * x3 (ix2 (i 0) t)) := by
  unfold uTile xTok dTile
  split_ifs with h
  · rw [u0_apply, cast256, X256_apply x2 k _ t l (by show l.val = _; omega), row3_at]
  · rw [u1_apply, cast256, X256_apply x2 k _ t l (by show 128 + l.val = _; omega), row3_at]

theorem uV_apply (k : Fin 12) (t l : Fin 128) : uV i x2 x3 x4 x5 x13 (ValueIdx.ix3 k t l)
      = dV i x4 x5 x13 (ValueIdx.ix3 k t l) * (x2 (ix3 (0 : Fin 1) (chan k l) t) * x3 (ix2 (i 0) t)) := by
  unfold uV dV
  rw [vix3]
  exact uTile_apply i x2 x3 x4 x5 x13 k t l

theorem tTile_apply (v : FVec Ideal S16x128 .f32) (t l : Fin 128) (n : Fin 16) : tTile v t.val (ix4 (0 : Fin 1) (0 : Fin 1) n l) = v (ix2 n t) := by
  unfold tTile
  pointwise []
  exact congrArg v (congrArg (ix2 n) (Fin.ext (Nat.mod_eq_of_lt t.isLt)))

theorem tV_apply (t l : Fin 128) (n : Fin 16) : tV i x6 x7 x8 x9 (ValueIdx.ix4 (0 : Fin 2) t n l)
      = x6 (ix3 (0 : Fin 1) n t) * (x7 (ix2 (i 0) t) * ((Real.log 2 : ℝ) : EReal)) := by
  unfold tV
  have e : (2 * t.val + 0) / 2 = t.val := by omega
  have e2 : (2 * t.val + 0) % 2 = 0 := by omega
  show tTile (if (2 * t.val + 0) % 2 = 0 then _ else _) ((2 * t.val + 0) / 2) (ValueIdx.ix4 (0 : Fin 1) (0 : Fin 1) n l) = _
  rw [e, if_pos e2, vix4, tTile_apply, b_apply, row3_at]

theorem aV_apply (q : Fin 24) (s : Fin 8) (l : Fin 128) : aV x11 (ValueIdx.ix3 q s l) = 0 - Ideal.exp (x11 (ix2 (st q s) (chan (blk q) l))) := by
  unfold aV aTile
  show k0_pay5 (aRows x11 q.val) (ValueIdx.ix3 (0 : Fin 1) s l) = _
  rw [vix3, a_apply]
  unfold aRows
  rw [vix2]
  refine congrArg (fun z => 0 - Ideal.exp (x11 z)) ?_
  have h1 : (⟨8 * (q.val % 2) + s.val, by omega⟩ : Fin 16) = st q s := Fin.ext (by show 8 * (q.val % 2) + s.val = q.val % 2 * 8 + s.val; omega)
  have h2 : (⟨128 * (q.val / 2 % 12) + l.val, by omega⟩ : Fin 1536) = chan (blk q) l := Fin.ext (by show 128 * (q.val / 2 % 12) + l.val = 128 * (q.val / 2) + l.val; omega)
  rw [← h1, ← h2]
  rfl
end

section
variable (a0 : Vec Ideal Cert.ReferenceIdeal.S3x1536x640 .fp8e4m3) (a1 : Vec Ideal Cert.ReferenceIdeal.S3x640 .f32)
  (a2 : Vec Ideal Cert.ReferenceIdeal.S3x1536x640 .fp8e4m3) (a3 : Vec Ideal Cert.ReferenceIdeal.S3x640 .f32)
  (a4 : Vec Ideal Cert.ReferenceIdeal.S3x16x640 .fp8e4m3) (a5 : Vec Ideal Cert.ReferenceIdeal.S3x640 .f32)
  (a9 : Vec Ideal Cert.ReferenceIdeal.S1536x16 .f32) (a11 : Vec Ideal Cert.ReferenceIdeal.S1536 .f32)

/-- The reference's state after the first `n` tokens. -/
def hTok (n : ℕ) : Cert.ReferenceIdeal.S3x16x1536.Idx → EReal :=
  ReferenceIdeal.hR a9 (ReferenceIdeal.dRef a2 a3 a11) (ReferenceIdeal.uRef a0 a1 a2 a3 a11) (ReferenceIdeal.bRef a4 a5) (Cert.ReferenceIdeal.Gen.k0_pay16 (F := Ideal)) n

/-- The reference's step size before the rounding to a capped exponential's range. -/
def vTok (b : Fin 3) (t : Fin 640) (c : Fin 1536) : EReal := a2 (ix3 b c t) * a3 (ix2 b t) + a11 (ix1 c)

theorem hTok_succ (b : Fin 3) (t : Fin 640) (n : Fin 16) (c : Fin 1536) :
    hTok a0 a1 a2 a3 a4 a5 a9 a11 (t.val + 1) (ix3 b n c)
      = Ideal.exp (spRef th (vTok a2 a3 a11 b t c) * (0 - Ideal.exp (a9 (ix2 c n)))) * hTok a0 a1 a2 a3 a4 a5 a9 a11 t.val (ix3 b n c)
        + spRef th (vTok a2 a3 a11 b t c) * (a0 (ix3 b c t) * a1 (ix2 b t)) * (a4 (ix3 b n t) * a5 (ix2 b t)) := by
  unfold hTok vTok
  rw [ReferenceIdeal.hR.eq_2]
  refine (ReferenceIdeal.Value.step_apply _ _ _ _ _ b n c).trans ?_
  have ht : (⟨t.val % 640, Nat.mod_lt _ (by decide)⟩ : Fin 640) = t := Fin.ext (Nat.mod_eq_of_lt t.isLt)
  have hd : ReferenceIdeal.rowC (ReferenceIdeal.dRef a2 a3 a11) t.val (ix3 (0 : Fin 1) b c) = spRef th (a2 (ix3 b c t) * a3 (ix2 b t) + a11 (ix1 c)) := by
    unfold ReferenceIdeal.rowC
    exact (congrArg (ReferenceIdeal.dRef a2 a3 a11) ((vix3 _ b c).trans (congrArg (fun z => ix3 z b c) ht))).trans (ReferenceIdeal.Value.d_apply a2 a3 a11 t b c)
  have hu : ReferenceIdeal.rowC (ReferenceIdeal.uRef a0 a1 a2 a3 a11) t.val (ix3 (0 : Fin 1) b c) = spRef th (a2 (ix3 b c t) * a3 (ix2 b t) + a11 (ix1 c)) * (a0 (ix3 b c t) * a1 (ix2 b t)) := by
    unfold ReferenceIdeal.rowC
    exact (congrArg (ReferenceIdeal.uRef a0 a1 a2 a3 a11) ((vix3 _ b c).trans (congrArg (fun z => ix3 z b c) ht))).trans (ReferenceIdeal.Value.u_apply a0 a1 a2 a3 a11 t b c)
  have hb : ReferenceIdeal.rowS (ReferenceIdeal.bRef a4 a5) t.val (ix3 (0 : Fin 1) b n) = a4 (ix3 b n t) * a5 (ix2 b t) := by
    unfold ReferenceIdeal.rowS
    exact (congrArg (ReferenceIdeal.bRef a4 a5) ((vix3 _ b n).trans (congrArg (fun z => ix3 z b n) ht))).trans (ReferenceIdeal.Value.b_apply a4 a5 t b n)
  rw [hd, hu, hb]

/-- The blocks that the windows hold at a point are the arguments' blocks there. -/
structure Blocks (i : grid0.Coords) (x2 : Vec Ideal S1x1536x128 .fp8e4m3) (x3 : Vec Ideal S3x128 .f32) (x4 : Vec Ideal S1x1536x128 .fp8e4m3) (x5 : Vec Ideal S3x128 .f32)
    (x6 : Vec Ideal S1x16x128 .fp8e4m3) (x7 : Vec Ideal S3x128 .f32) (x11 : Vec Ideal S16x1536 .f32) (x13 : Vec Ideal S12x128 .f32) : Prop where
  e2 : ∀ c τ, x2 (ix3 (0 : Fin 1) c τ) = a0 (ix3 (i 0) c (tok (i 1) τ))
  e3 : ∀ τ, x3 (ix2 (i 0) τ) = a1 (ix2 (i 0) (tok (i 1) τ))
  e4 : ∀ c τ, x4 (ix3 (0 : Fin 1) c τ) = a2 (ix3 (i 0) c (tok (i 1) τ))
  e5 : ∀ τ, x5 (ix2 (i 0) τ) = a3 (ix2 (i 0) (tok (i 1) τ))
  e6 : ∀ n τ, x6 (ix3 (0 : Fin 1) n τ) = a4 (ix3 (i 0) n (tok (i 1) τ))
  e7 : ∀ τ, x7 (ix2 (i 0) τ) = a5 (ix2 (i 0) (tok (i 1) τ))
  e11 : ∀ n c, x11 (ix2 n c) = a9 (ix2 c n)
  e13 : ∀ k l, x13 (ix2 k l) = a11 (ix1 (chan k l))

variable {a0 a1 a2 a3 a4 a5 a9 a11}
variable {i : grid0.Coords} {x2 : Vec Ideal S1x1536x128 .fp8e4m3} {x3 : Vec Ideal S3x128 .f32} {x4 : Vec Ideal S1x1536x128 .fp8e4m3} {x5 : Vec Ideal S3x128 .f32}
    {x6 : Vec Ideal S1x16x128 .fp8e4m3} {x7 : Vec Ideal S3x128 .f32} {x8 : Vec Ideal S1x16x128 .fp8e4m3} {x9 : Vec Ideal S3x128 .f32} {x11 : Vec Ideal S16x1536 .f32} {x13 : Vec Ideal S12x128 .f32}

theorem dV_tok (B : Blocks a0 a1 a2 a3 a4 a5 a9 a11 i x2 x3 x4 x5 x6 x7 x11 x13) (k : Fin 12) (τ l : Fin 128) :
    dV i x4 x5 x13 (ValueIdx.ix3 k τ l) = lg * spRef th (vTok a2 a3 a11 (i 0) (tok (i 1) τ) (chan k l)) := by
  rw [dV_apply, ← spKer_lg, B.e4, B.e5, B.e13]
  unfold vTok
  rw [lg_add]
  congr 2
  · rw [← mul_assoc, mul_comm]
  · rw [mul_comm]

/-- A chunk's tokens, from equal states to equal states. -/
theorem chunk (B : Blocks a0 a1 a2 a3 a4 a5 a9 a11 i x2 x3 x4 x5 x6 x7 x11 x13) (h : Fin 24 → Fin 8 → Fin 128 → EReal)
    (hh : ∀ q s l, h q s l = hTok a0 a1 a2 a3 a4 a5 a9 a11 (128 * (i 1).val) (ix3 (i 0) (st q s) (chan (blk q) l))) (q : Fin 24) (s : Fin 8) (l : Fin 128) :
    ∀ n, n ≤ 128 → hAt (F := Ideal) (dV i x4 x5 x13) (uV i x2 x3 x4 x5 x13) (aV x11) (tV i x6 x7 x8 x9) h n q s l
      = hTok a0 a1 a2 a3 a4 a5 a9 a11 (128 * (i 1).val + n) (ix3 (i 0) (st q s) (chan (blk q) l))
  | 0, _ => hh q s l
  | n + 1, hn => by
    have ih := chunk B h hh q s l n (Nat.le_of_succ_le hn)
    have e : tm n = ⟨n, hn⟩ := Fin.ext (Nat.mod_eq_of_lt hn)
    have hs := hTok_succ a0 a1 a2 a3 a4 a5 a9 a11 (i 0) (tok (i 1) (tm n)) (st q s) (chan (blk q) l)
    have ev : (tok (i 1) (tm n)).val = 128 * (i 1).val + n := by rw [e]; rfl
    rw [ev] at hs
    rw [← Nat.add_assoc, hs, ← ih]
    show Ideal.exp2 (dV i x4 x5 x13 (ValueIdx.ix3 (blk q) (tm n) l) * aV x11 (ValueIdx.ix3 q s l)) * hAt (F := Ideal) (dV i x4 x5 x13) (uV i x2 x3 x4 x5 x13) (aV x11) (tV i x6 x7 x8 x9) h n q s l
      + uV i x2 x3 x4 x5 x13 (ValueIdx.ix3 (blk q) (tm n) l) * tV i x6 x7 x8 x9 (ValueIdx.ix4 (0 : Fin 2) (tm n) (st q s) l) = _
    rw [uV_apply, dV_tok B, aV_apply, tV_apply, B.e11, B.e2, B.e3, B.e6, B.e7, decay, enter]
end

end Cert.Proof.KernelIdeal

end
-- ==== Proof.State.lean ====
/-
  The state result over the extended reals: the kernel's launch and the reference's leave the same array.
-/
module

public import proofs.«01_k».proof.Proof.KernelIdealValue
public import proofs.«01_k».proof.Proof.KerBlocks
public import proofs.«01_k».proof.Proof.RefBlocks
public import proofs.«01_k».proof.Proof.RefLaunch
public import proofs.«01_k».proof.Proof.Equation

@[expose] public section

set_option maxRecDepth 16384

noncomputable section

namespace Cert.Proof.KernelIdeal.Value

open Cert.KernelIdeal Cert.KernelIdeal.Gen
open Idealize.ShloMosaic Idealize.ShloMosaic.TcCoe Cert.Proof

variable (m : (ℓ : Loc nD τ sig) → Buf (Elt Ideal) ℓ) (c : Dev nD)

/-- The reference's state of the kernel's arguments, after the first `n` tokens. -/
def hArg (n : ℕ) : Cert.ReferenceIdeal.S3x16x1536.Idx → EReal :=
  hTok (m ((c : Thread nD τ).loc main_arg0)) (m ((c : Thread nD τ).loc main_arg1)) (m ((c : Thread nD τ).loc main_arg2)) (m ((c : Thread nD τ).loc main_arg3))
    (m ((c : Thread nD τ).loc main_arg4)) (m ((c : Thread nD τ).loc main_arg5)) (m ((c : Thread nD τ).loc main_arg9)) (m ((c : Thread nD τ).loc main_arg11)) n

/-- The windows' blocks at a point are the arguments' blocks there. -/
theorem blocks (t : Fin cfg0.N) :
    Blocks (m ((c : Thread nD τ).loc main_arg0)) (m ((c : Thread nD τ).loc main_arg1)) (m ((c : Thread nD τ).loc main_arg2)) (m ((c : Thread nD τ).loc main_arg3))
      (m ((c : Thread nD τ).loc main_arg4)) (m ((c : Thread nD τ).loc main_arg5)) (m ((c : Thread nD τ).loc main_arg9)) (m ((c : Thread nD τ).loc main_arg11))
      (grid0.coords t) (iblk m c 0 t) (iblk m c 1 t) (iblk m c 2 t) (iblk m c 3 t) (iblk m c 4 t) (iblk m c 5 t) (iblk m c 9 t0_0) (iblk m c 11 t) where
  e2 := Blocks.iblk_0 m c t
  e3 := Blocks.iblk_1 m c t _
  e4 := Blocks.iblk_2 m c t
  e5 := Blocks.iblk_3 m c t _
  e6 := Blocks.iblk_4 m c t
  e7 := Blocks.iblk_5 m c t _
  e11 := Blocks.iblk_9 m c t0_0
  e13 := Blocks.iblk_11 m c t

/-- One point takes the reference's state before its chunk to the reference's state after it. -/
theorem hStep_arg (t : Fin cfg0.N) (h : S24x8x128.Idx → EReal)
    (hh : ∀ q s l, hNow (F := Ideal) (grid0.coords t) h (ValueIdx.ix3 q s l) = hArg m c (128 * (grid0.coords t 1).val) (ix3 (grid0.coords t 0 : Fin 3) (st q s) (chan (blk q) l)))
    (q : Fin 24) (s : Fin 8) (l : Fin 128) :
    hStep (F := Ideal) m c t h (ValueIdx.ix3 q s l) = hArg m c (128 * (grid0.coords t 1).val + 128) (ix3 (grid0.coords t 0 : Fin 3) (st q s) (chan (blk q) l)) :=
  chunk (blocks m c t) (fun q s l => hNow (F := Ideal) (grid0.coords t) h (ValueIdx.ix3 q s l)) hh q s l 128 (Nat.le_refl _)

/-- At the batch's first chunk the state is zero, as the reference's is before the first token. -/
theorem hNow_first (i : grid0.Coords) (hi : (i 1).val = 0) (h : S24x8x128.Idx → EReal) (q : Fin 24) (s : Fin 8) (l : Fin 128) (x) :
    hNow (F := Ideal) i h (ValueIdx.ix3 q s l) = hArg m c (128 * (i 1).val) x := by
  unfold hNow
  rw [if_pos hi, hi]
  exact (zero_apply _).trans (ReferenceIdeal.Value.zero_apply x).symm

/-- The kernel's state after every point is the reference's after that chunk. -/
theorem hSt_arg : ∀ (n : ℕ) (hn : n < cfg0.N) (q : Fin 24) (s : Fin 8) (l : Fin 128),
    hSt (F := Ideal) m c (n + 1) (ValueIdx.ix3 q s l)
      = hArg m c (128 * (grid0.coords ⟨n, hn⟩ 1).val + 128) (ix3 (grid0.coords ⟨n, hn⟩ 0 : Fin 3) (st q s) (chan (blk q) l))
  | 0, hn, q, s, l => by
    rw [hSt_succ m c ⟨0, hn⟩]
    exact hStep_arg m c ⟨0, hn⟩ _ (fun q s l => hNow_first m c _ ((coords1 ⟨0, hn⟩).trans rfl) _ q s l _) q s l
  | n + 1, hn, q, s, l => by
    have ih := hSt_arg n (Nat.lt_of_succ_lt hn)
    rw [hSt_succ m c ⟨n + 1, hn⟩]
    refine hStep_arg m c ⟨n + 1, hn⟩ _ (fun q s l => ?_) q s l
    by_cases h0 : (grid0.coords ⟨n + 1, hn⟩ 1).val = 0
    · exact hNow_first m c _ h0 _ q s l _
    · have c1 : (grid0.coords ⟨n + 1, hn⟩ 1).val = (n + 1) % 5 := coords1 ⟨n + 1, hn⟩
      have c2 : (grid0.coords ⟨n, Nat.lt_of_succ_lt hn⟩ 1).val = n % 5 := coords1 ⟨n, Nat.lt_of_succ_lt hn⟩
      have b1 : (grid0.coords ⟨n + 1, hn⟩ 0).val = (n + 1) / 5 := coords0 ⟨n + 1, hn⟩
      have b2 : (grid0.coords ⟨n, Nat.lt_of_succ_lt hn⟩ 0).val = n / 5 := coords0 ⟨n, Nat.lt_of_succ_lt hn⟩
      have e1 : 128 * (grid0.coords ⟨n, Nat.lt_of_succ_lt hn⟩ 1).val + 128 = 128 * (grid0.coords ⟨n + 1, hn⟩ 1).val := by omega
      have e2 : (grid0.coords ⟨n, Nat.lt_of_succ_lt hn⟩ 0 : Fin 3) = (grid0.coords ⟨n + 1, hn⟩ 0 : Fin 3) := Fin.ext (by omega)
      unfold hNow
      rw [if_neg h0]
      refine (ih q s l).trans ?_
      exact (congrArg (fun N => hArg m c N _) e1).trans (congrArg (fun b => hArg m c _ (ix3 b (st q s) (chan (blk q) l))) e2)

/-- The kernel's state result is the reference's state after the last token. -/
theorem hKer_arg : hKer (F := Ideal) m c = hArg m c 640 := by
  funext x
  have h0 : (x 0).val < 3 := (x 0).isLt
  have h1 : (x 1).val < 16 := (x 1).isLt
  have h2 : (x 2).val < 1536 := (x 2).isLt
  have hn : 5 * (x 0).val + 4 < cfg0.N := Nat.lt_of_lt_of_eq (show 5 * (x 0).val + 4 < 15 by omega) (by decide +kernel)
  have c1 : (grid0.coords ⟨5 * (x 0).val + 4, hn⟩ 1).val = (5 * (x 0).val + 4) % 5 := coords1 ⟨_, hn⟩
  have c0 : (grid0.coords ⟨5 * (x 0).val + 4, hn⟩ 0).val = (5 * (x 0).val + 4) / 5 := coords0 ⟨_, hn⟩
  have key : ∀ (N : ℕ) (z : Cert.ReferenceIdeal.S3x16x1536.Idx), N = 640 → z = x → hArg m c N z = hArg m c 640 x := fun N z hN hz => by rw [hN, hz]
  refine (hSt_arg m c (5 * (x 0).val + 4) hn _ _ _).trans (key _ _ (by omega) (funext fun a => ?_))
  match a with
  | ⟨0, _⟩ => exact Fin.ext (by show (grid0.coords ⟨5 * (x 0).val + 4, hn⟩ 0).val = (x 0).val; omega)
  | ⟨1, _⟩ => exact Fin.ext (by show (2 * ((x 2).val / 128) + (x 1).val / 8) % 2 * 8 + (x 1).val % 8 = (x 1).val; omega)
  | ⟨2, _⟩ => exact Fin.ext (by show 128 * ((2 * ((x 2).val / 128) + (x 1).val / 8) / 2) + (x 2).val % 128 = (x 2).val; omega)

end Cert.Proof.KernelIdeal.Value

end
-- ==== Proof.Algebraic.lean ====
/-
  The value claim: the state that the kernel leaves is the reference's, over the extended reals; and the two frames, from the same launches.
-/
module

public import proofs.«01_k».proof.Defs
public import proofs.«01_k».proof.Proof.State
public import proofs.«01_k».proof.Proof.Gen.On_state

@[expose] public section

set_option maxRecDepth 16384

noncomputable section

namespace Cert.Proof

open Idealize.ShloMosaic Idealize.ShloMosaic.TcCoe Idealize.SL.Sem

/-- The kernel leaves the arguments unchanged and every counter at zero. -/
theorem frame_KernelIdeal : quiescent_KernelIdeal := fun m g _ =>
  (θ_run _ _ _).mono (fun _ h => ⟨fun c => (h.1 c).2, h.2⟩) (KernelIdeal.Value.run_value m g)

/-- The reference leaves the arguments unchanged and every counter at zero. -/
theorem frame_ReferenceIdeal : quiescent_ReferenceIdeal := fun m g _ =>
  (θ_run _ _ _).mono (fun _ h => ⟨fun c => (h.1 c).2.2, h.2⟩) (ReferenceIdeal.Value.run_value m g)

/-- The reference's state result is its state after the last token, of the arguments that both are given. -/
theorem hRef_arg (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ) (c : Dev Cert.KernelIdeal.nD)
    (h0 : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0))
    (h1 : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1))
    (h2 : m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2))
    (h3 : m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3))
    (h4 : m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4))
    (h5 : m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5))
    (h9 : m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9))
    (h11 : m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) :
    ReferenceIdeal.hRef (F := Ideal) (Cert.ReferenceIdeal.Gen.iblk m' c 0 Cert.ReferenceIdeal.Gen.t0_0) (Cert.ReferenceIdeal.Gen.iblk m' c 1 Cert.ReferenceIdeal.Gen.t0_0)
        (Cert.ReferenceIdeal.Gen.iblk m' c 2 Cert.ReferenceIdeal.Gen.t0_0) (Cert.ReferenceIdeal.Gen.iblk m' c 3 Cert.ReferenceIdeal.Gen.t0_0)
        (Cert.ReferenceIdeal.Gen.iblk m' c 4 Cert.ReferenceIdeal.Gen.t0_0) (Cert.ReferenceIdeal.Gen.iblk m' c 5 Cert.ReferenceIdeal.Gen.t0_0)
        (Cert.ReferenceIdeal.Gen.iblk m' c 9 Cert.ReferenceIdeal.Gen.t0_0) (Cert.ReferenceIdeal.Gen.iblk m' c 11 Cert.ReferenceIdeal.Gen.t0_0)
      = KernelIdeal.Value.hArg m c 640 := by
  rw [ReferenceIdeal.Blocks.iblk_0, ReferenceIdeal.Blocks.iblk_1, ReferenceIdeal.Blocks.iblk_2, ReferenceIdeal.Blocks.iblk_3, ReferenceIdeal.Blocks.iblk_4,
    ReferenceIdeal.Blocks.iblk_5, ReferenceIdeal.Blocks.iblk_9, ReferenceIdeal.Blocks.iblk_11, h0, h1, h2, h3, h4, h5, h9, h11]
  rfl

/-- Where the mask is set (the whole of the state result, nothing of the other) the two programs leave the same extended reals. -/
theorem algebraic : algebraic_KernelIdeal_ReferenceIdeal_on_state := fun m g m' g' _ hm =>
  ⟨fun c => m ((c.tc : Thread Cert.KernelIdeal.nD Cert.KernelIdeal.τ).loc Cert.KernelIdeal.main_v3_0), fun c => KernelIdeal.Value.hArg m c 640,
    (θ_run _ _ _).mono (fun _ h c => ⟨fun _ hi => absurd (show (0#1 : BitVec 1) = 1#1 from hi) (by decide),
      fun i _ => congrFun ((h.1 c).1.trans (KernelIdeal.Value.hKer_arg m c)) i, (h.1 c).2⟩) (KernelIdeal.Value.run_value m g),
    (θ_run _ _ _).mono (fun _ h c => ⟨fun _ hi => absurd (show (0#1 : BitVec 1) = 1#1 from hi) (by decide),
      fun i _ => congrFun ((h.1 c).2.1.trans (hRef_arg m m' c (hm c).1 (hm c).2.1 (hm c).2.2.1 (hm c).2.2.2.1 (hm c).2.2.2.2.1 (hm c).2.2.2.2.2.1
        (hm c).2.2.2.2.2.2.2.2.2.1 (hm c).2.2.2.2.2.2.2.2.2.2.2)) i, (h.1 c).2.2⟩) (ReferenceIdeal.Value.run_value m' g')⟩

end Cert.Proof

end
-- ==== Proof.lean ====
module

public import proofs.«01_k».proof.Defs
public import proofs.«01_k».proof.Proof.Gen.On_state
public import proofs.«01_k».proof.Proof.KernelFrame
public import proofs.«01_k».proof.Proof.Preserves
public import proofs.«01_k».proof.Proof.Algebraic

@[expose] public section

noncomputable section

namespace Cert.Proof

/-- The three frames, what the named constants preserve, and the state's value. -/
theorem claim : Cert.Claim :=
  ⟨Cert.Kernel.Gen.facts, Cert.KernelIdeal.Gen.facts, Cert.ReferenceIdeal.Gen.facts, Cert.On_state.Gen.facts,
    fun m g _ => Kernel.frame m g, frame_KernelIdeal, frame_ReferenceIdeal, preserves, algebraic⟩

end Cert.Proof

end
